-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "rsq" .f32 0x3F7FFFAC#32 (((Real.sqrt (2097173 / 2097152))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x256x64x64 : Shape := ⟨5, ![1, 1, 256, 64, 64]⟩
abbrev S1 : Shape := ⟨1, ![1]⟩
abbrev S_ : Shape := ⟨0, ![]⟩
abbrev S256x256x3x3 : Shape := ⟨4, ![256, 256, 3, 3]⟩
abbrev S256 : Shape := ⟨1, ![256]⟩
abbrev S80x256x1x1 : Shape := ⟨4, ![80, 256, 1, 1]⟩
abbrev S80 : Shape := ⟨1, ![80]⟩
abbrev S68x256x1x1 : Shape := ⟨4, ![68, 256, 1, 1]⟩
abbrev S68 : Shape := ⟨1, ![68]⟩
abbrev S512x256x3x3 : Shape := ⟨4, ![512, 256, 3, 3]⟩
abbrev S512x256x9 : Shape := ⟨3, ![512, 256, 9]⟩
abbrev S9x512x256 : Shape := ⟨3, ![9, 512, 256]⟩
abbrev S256x4096 : Shape := ⟨2, ![256, 4096]⟩
abbrev S1x256 : Shape := ⟨2, ![1, 256]⟩
abbrev S80x256 : Shape := ⟨2, ![80, 256]⟩
abbrev S1x80 : Shape := ⟨2, ![1, 80]⟩
abbrev S68x256 : Shape := ⟨2, ![68, 256]⟩
abbrev S1x68 : Shape := ⟨2, ![1, 68]⟩
abbrev S80x4096 : Shape := ⟨2, ![80, 4096]⟩
abbrev S68x4096 : Shape := ⟨2, ![68, 4096]⟩
abbrev S80x1024 : Shape := ⟨2, ![80, 1024]⟩
abbrev S68x1024 : Shape := ⟨2, ![68, 1024]⟩
abbrev S256x4352 : Shape := ⟨2, ![256, 4352]⟩
abbrev S512x1 : Shape := ⟨2, ![512, 1]⟩
abbrev S256x128 : Shape := ⟨2, ![256, 128]⟩
abbrev S256x1 : Shape := ⟨2, ![256, 1]⟩
abbrev S256x1280 : Shape := ⟨2, ![256, 1280]⟩
abbrev S1x1024 : Shape := ⟨2, ![1, 1024]⟩
abbrev S512x1024 : Shape := ⟨2, ![512, 1024]⟩
abbrev S256x1024 : Shape := ⟨2, ![256, 1024]⟩
abbrev S1x512x256 : Shape := ⟨3, ![1, 512, 256]⟩
abbrev S512x256 : Shape := ⟨2, ![512, 256]⟩
abbrev S80x1 : Shape := ⟨2, ![80, 1]⟩
abbrev S68x1 : Shape := ⟨2, ![68, 1]⟩
abbrev S1x80x64x64 : Shape := ⟨4, ![1, 80, 64, 64]⟩
abbrev S1x68x64x64 : Shape := ⟨4, ![1, 68, 64, 64]⟩

abbrev nBuf : Space → Nat
  | .hbm => 33
  | .vmem => 17
  | .smem => 0
  | _ => 0

abbrev bufTy : (tb : Table) → Fin (tcTables nBuf tb) → BufTy
  | .hbm, ⟨0, _⟩ => ⟨S1x1x256x64x64, .f32⟩
  | .hbm, ⟨1, _⟩ => ⟨S1, .i32⟩
  | .hbm, ⟨2, _⟩ => ⟨S_, .i32⟩
  | .hbm, ⟨3, _⟩ => ⟨S256x256x3x3, .f32⟩
  | .hbm, ⟨4, _⟩ => ⟨S256, .f32⟩
  | .hbm, ⟨5, _⟩ => ⟨S256, .f32⟩
  | .hbm, ⟨6, _⟩ => ⟨S80x256x1x1, .f32⟩
  | .hbm, ⟨7, _⟩ => ⟨S80, .f32⟩
  | .hbm, ⟨8, _⟩ => ⟨S256x256x3x3, .f32⟩
  | .hbm, ⟨9, _⟩ => ⟨S256, .f32⟩
  | .hbm, ⟨10, _⟩ => ⟨S256, .f32⟩
  | .hbm, ⟨11, _⟩ => ⟨S68x256x1x1, .f32⟩
  | .hbm, ⟨12, _⟩ => ⟨S68, .f32⟩
  | .hbm, ⟨13, _⟩ => ⟨S512x256x3x3, .f32⟩
  | .hbm, ⟨14, _⟩ => ⟨S512x256x3x3, .bf16⟩
  | .hbm, ⟨15, _⟩ => ⟨S512x256x9, .bf16⟩
  | .hbm, ⟨16, _⟩ => ⟨S9x512x256, .bf16⟩
  | .hbm, ⟨17, _⟩ => ⟨S256x4096, .f32⟩
  | .hbm, ⟨18, _⟩ => ⟨S256x4096, .bf16⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S80x256, .f32⟩
  | .hbm, ⟨24, _⟩ => ⟨S1x80, .f32⟩
  | .hbm, ⟨25, _⟩ => ⟨S68x256, .f32⟩
  | .hbm, ⟨26, _⟩ => ⟨S1x68, .f32⟩
  | .hbm, ⟨27, _⟩ => ⟨S80x4096, .bf16⟩
  | .hbm, ⟨28, _⟩ => ⟨S68x4096, .bf16⟩
  | .hbm, ⟨29, _⟩ => ⟨S1x80x64x64, .bf16⟩
  | .hbm, ⟨30, _⟩ => ⟨S1x80x64x64, .f32⟩
  | .hbm, ⟨31, _⟩ => ⟨S1x68x64x64, .bf16⟩
  | .hbm, ⟨32, _⟩ => ⟨S1x68x64x64, .f32⟩
  | .local _ .vmem, ⟨0, _⟩ => ⟨S256x4096, .bf16⟩
  | .local _ .vmem, ⟨1, _⟩ => ⟨S9x512x256, .bf16⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x256, .f32⟩
  | .local _ .vmem, ⟨6, _⟩ => ⟨S80x256, .f32⟩
  | .local _ .vmem, ⟨7, _⟩ => ⟨S1x80, .f32⟩
  | .local _ .vmem, ⟨8, _⟩ => ⟨S68x256, .f32⟩
  | .local _ .vmem, ⟨9, _⟩ => ⟨S1x68, .f32⟩
  | .local _ .vmem, ⟨10, _⟩ => ⟨S80x1024, .bf16⟩
  | .local _ .vmem, ⟨11, _⟩ => ⟨S80x1024, .bf16⟩
  | .local _ .vmem, ⟨12, _⟩ => ⟨S68x1024, .bf16⟩
  | .local _ .vmem, ⟨13, _⟩ => ⟨S68x1024, .bf16⟩
  | .local _ .vmem, ⟨14, _⟩ => ⟨S256x4352, .bf16⟩
  | .local _ .vmem, ⟨15, _⟩ => ⟨S512x1, .f32⟩
  | .local _ .vmem, ⟨16, _⟩ => ⟨S512x1, .f32⟩
  | _, _ => ⟨S1x1x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem10_1 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0 : Index := 0#32
  let arg0 : BitVec 32 := BitVec.ofNat 32 (i 0).val
  let c1024_i32 : BitVec 32 := 1024#32
  let v3 : BitVec 32 := Scalar.muli arg0 c1024_i32
  let v4 : Index := Scalar.indexCast v3
  ![0, v4.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S9x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S80x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x80 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S68x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x68 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S80x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S68x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "rsq" => some (((Real.sqrt (2097173 / 2097152))⁻¹ : ℝ) : EReal)
  | _ => none
-- ==== ReferenceIdeal.lean ====
abbrev S1x1x256x64x64 : Shape := ⟨5, ![1, 1, 256, 64, 64]⟩
abbrev S1 : Shape := ⟨1, ![1]⟩
abbrev S_ : Shape := ⟨0, ![]⟩
abbrev S256x256x3x3 : Shape := ⟨4, ![256, 256, 3, 3]⟩
abbrev S256 : Shape := ⟨1, ![256]⟩
abbrev S80x256x1x1 : Shape := ⟨4, ![80, 256, 1, 1]⟩
abbrev S80 : Shape := ⟨1, ![80]⟩
abbrev S68x256x1x1 : Shape := ⟨4, ![68, 256, 1, 1]⟩
abbrev S68 : Shape := ⟨1, ![68]⟩
abbrev S256x64x64 : Shape := ⟨3, ![256, 64, 64]⟩
abbrev S256x66x66 : Shape := ⟨3, ![256, 66, 66]⟩
abbrev S1x256x64x64 : Shape := ⟨4, ![1, 256, 64, 64]⟩
abbrev S9x256x64x64 : Shape := ⟨4, ![9, 256, 64, 64]⟩
abbrev S2304x4096 : Shape := ⟨2, ![2304, 4096]⟩
abbrev S256x3x3x256 : Shape := ⟨4, ![256, 3, 3, 256]⟩
abbrev S256x2304 : Shape := ⟨2, ![256, 2304]⟩
abbrev S256x4096 : Shape := ⟨2, ![256, 4096]⟩
abbrev S256x1 : Shape := ⟨2, ![256, 1]⟩
abbrev S80x256 : Shape := ⟨2, ![80, 256]⟩
abbrev S80x4096 : Shape := ⟨2, ![80, 4096]⟩
abbrev S80x1 : Shape := ⟨2, ![80, 1]⟩
abbrev S1x80x64x64 : Shape := ⟨4, ![1, 80, 64, 64]⟩
abbrev S68x256 : Shape := ⟨2, ![68, 256]⟩
abbrev S68x4096 : Shape := ⟨2, ![68, 4096]⟩
abbrev S68x1 : Shape := ⟨2, ![68, 1]⟩
abbrev S1x68x64x64 : Shape := ⟨4, ![1, 68, 64, 64]⟩

abbrev nBuf : Space → Nat
  | .hbm => 95
  | .vmem => 0
  | .smem => 0
  | _ => 0

abbrev bufTy : (tb : Table) → Fin (tcTables nBuf tb) → BufTy
  | .hbm, ⟨0, _⟩ => ⟨S1x1x256x64x64, .f32⟩
  | .hbm, ⟨1, _⟩ => ⟨S1, .i32⟩
  | .hbm, ⟨2, _⟩ => ⟨S_, .i32⟩
  | .hbm, ⟨3, _⟩ => ⟨S256x256x3x3, .f32⟩
  | .hbm, ⟨4, _⟩ => ⟨S256, .f32⟩
  | .hbm, ⟨5, _⟩ => ⟨S256, .f32⟩
  | .hbm, ⟨6, _⟩ => ⟨S80x256x1x1, .f32⟩
  | .hbm, ⟨7, _⟩ => ⟨S80, .f32⟩
  | .hbm, ⟨8, _⟩ => ⟨S256x256x3x3, .f32⟩
  | .hbm, ⟨9, _⟩ => ⟨S256, .f32⟩
  | .hbm, ⟨10, _⟩ => ⟨S256, .f32⟩
  | .hbm, ⟨11, _⟩ => ⟨S68x256x1x1, .f32⟩
  | .hbm, ⟨12, _⟩ => ⟨S68, .f32⟩
  | .hbm, ⟨13, _⟩ => ⟨S256x64x64, .f32⟩
  | .hbm, ⟨14, _⟩ => ⟨S_, .i32⟩
  | .hbm, ⟨15, _⟩ => ⟨S_, .f32⟩
  | .hbm, ⟨16, _⟩ => ⟨S256x66x66, .f32⟩
  | .hbm, ⟨17, _⟩ => ⟨S256x64x64, .f32⟩
  | .hbm, ⟨18, _⟩ => ⟨S256x64x64, .f32⟩
  | .hbm, ⟨19, _⟩ => ⟨S256x64x64, .f32⟩
  | .hbm, ⟨20, _⟩ => ⟨S256x64x64, .f32⟩
  | .hbm, ⟨21, _⟩ => ⟨S256x64x64, .f32⟩
  | .hbm, ⟨22, _⟩ => ⟨S256x64x64, .f32⟩
  | .hbm, ⟨23, _⟩ => ⟨S256x64x64, .f32⟩
  | .hbm, ⟨24, _⟩ => ⟨S256x64x64, .f32⟩
  | .hbm, ⟨25, _⟩ => ⟨S256x64x64, .f32⟩
  | .hbm, ⟨26, _⟩ => ⟨S1x256x64x64, .f32⟩
  | .hbm, ⟨27, _⟩ => ⟨S1x256x64x64, .f32⟩
  | .hbm, ⟨28, _⟩ => ⟨S1x256x64x64, .f32⟩
  | .hbm, ⟨29, _⟩ => ⟨S1x256x64x64, .f32⟩
  | .hbm, ⟨30, _⟩ => ⟨S1x256x64x64, .f32⟩
  | .hbm, ⟨31, _⟩ => ⟨S1x256x64x64, .f32⟩
  | .hbm, ⟨32, _⟩ => ⟨S1x256x64x64, .f32⟩
  | .hbm, ⟨33, _⟩ => ⟨S1x256x64x64, .f32⟩
  | .hbm, ⟨34, _⟩ => ⟨S1x256x64x64, .f32⟩
  | .hbm, ⟨35, _⟩ => ⟨S9x256x64x64, .f32⟩
  | .hbm, ⟨36, _⟩ => ⟨S2304x4096, .f32⟩
  | .hbm, ⟨37, _⟩ => ⟨S256x3x3x256, .f32⟩
  | .hbm, ⟨38, _⟩ => ⟨S256x2304, .f32⟩
  | .hbm, ⟨39, _⟩ => ⟨S256x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S256, .f32⟩
  | .hbm, ⟨44, _⟩ => ⟨S256, .f32⟩
  | .hbm, ⟨45, _⟩ => ⟨S256x1, .f32⟩
  | .hbm, ⟨46, _⟩ => ⟨S256x4096, .f32⟩
  | .hbm, ⟨47, _⟩ => ⟨S256x4096, .f32⟩
  | .hbm, ⟨48, _⟩ => ⟨S256x1, .f32⟩
  | .hbm, ⟨49, _⟩ => ⟨S256x4096, .f32⟩
  | .hbm, ⟨50, _⟩ => ⟨S256x4096, .f32⟩
  | .hbm, ⟨51, _⟩ => ⟨S256x4096, .f32⟩
  | .hbm, ⟨52, _⟩ => ⟨S256x4096, .f32⟩
  | .hbm, ⟨53, _⟩ => ⟨S_, .f32⟩
  | .hbm, ⟨54, _⟩ => ⟨S256x4096, .f32⟩
  | .hbm, ⟨55, _⟩ => ⟨S256x4096, .f32⟩
  | .hbm, ⟨56, _⟩ => ⟨S_, .f32⟩
  | .hbm, ⟨57, _⟩ => ⟨S256x4096, .f32⟩
  | .hbm, ⟨58, _⟩ => ⟨S256x4096, .f32⟩
  | .hbm, ⟨59, _⟩ => ⟨S256x4096, .f32⟩
  | .hbm, ⟨60, _⟩ => ⟨S80x256, .f32⟩
  | .hbm, ⟨61, _⟩ => ⟨S80x4096, .f32⟩
  | .hbm, ⟨62, _⟩ => ⟨S80x1, .f32⟩
  | .hbm, ⟨63, _⟩ => ⟨S80x4096, .f32⟩
  | .hbm, ⟨64, _⟩ => ⟨S80x4096, .f32⟩
  | .hbm, ⟨65, _⟩ => ⟨S1x80x64x64, .f32⟩
  | .hbm, ⟨66, _⟩ => ⟨S256x3x3x256, .f32⟩
  | .hbm, ⟨67, _⟩ => ⟨S256x2304, .f32⟩
  | .hbm, ⟨68, _⟩ => ⟨S256x4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S256, .f32⟩
  | .hbm, ⟨73, _⟩ => ⟨S256, .f32⟩
  | .hbm, ⟨74, _⟩ => ⟨S256x1, .f32⟩
  | .hbm, ⟨75, _⟩ => ⟨S256x4096, .f32⟩
  | .hbm, ⟨76, _⟩ => ⟨S256x4096, .f32⟩
  | .hbm, ⟨77, _⟩ => ⟨S256x1, .f32⟩
  | .hbm, ⟨78, _⟩ => ⟨S256x4096, .f32⟩
  | .hbm, ⟨79, _⟩ => ⟨S256x4096, .f32⟩
  | .hbm, ⟨80, _⟩ => ⟨S256x4096, .f32⟩
  | .hbm, ⟨81, _⟩ => ⟨S256x4096, .f32⟩
  | .hbm, ⟨82, _⟩ => ⟨S_, .f32⟩
  | .hbm, ⟨83, _⟩ => ⟨S256x4096, .f32⟩
  | .hbm, ⟨84, _⟩ => ⟨S256x4096, .f32⟩
  | .hbm, ⟨85, _⟩ => ⟨S_, .f32⟩
  | .hbm, ⟨86, _⟩ => ⟨S256x4096, .f32⟩
  | .hbm, ⟨87, _⟩ => ⟨S256x4096, .f32⟩
  | .hbm, ⟨88, _⟩ => ⟨S256x4096, .f32⟩
  | .hbm, ⟨89, _⟩ => ⟨S68x256, .f32⟩
  | .hbm, ⟨90, _⟩ => ⟨S68x4096, .f32⟩
  | .hbm, ⟨91, _⟩ => ⟨S68x1, .f32⟩
  | .hbm, ⟨92, _⟩ => ⟨S68x4096, .f32⟩
  | .hbm, ⟨93, _⟩ => ⟨S68x4096, .f32⟩
  | .hbm, ⟨94, _⟩ => ⟨S1x68x64x64, .f32⟩
  | _, _ => ⟨S1x1x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_0 : Ref sig .tc := ⟨.hbm, 53, rfl⟩
abbrev main_v37 : Ref sig .tc := ⟨.hbm, 54, rfl⟩
abbrev main_v38 : Ref sig .tc := ⟨.hbm, 55, rfl⟩
abbrev main_cst_1 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_2 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_3 : Ref sig .tc := ⟨.hbm, 82, rfl⟩
abbrev main_v63 : Ref sig .tc := ⟨.hbm, 83, rfl⟩
abbrev main_v64 : Ref sig .tc := ⟨.hbm, 84, rfl⟩
abbrev main_cst_4 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩

abbrev nD : Nat := 1
abbrev τ : Topo := Topo.v7x

variable {F : FTy → Type} [FloatOps F]
-- ==== Proof.Spec.lean ====
/- The detection head as mathematics: the 3x3 convolution with one ring of zeros, batch norm, SiLU and the 1x1
   convolution, of plain functions of coordinates. Both branches, and both programs, are instances of `head`. -/
module

public import Idealize.ShloMosaic.PureOps.Ideal.Laws

@[expose] public section

noncomputable section

namespace Cert.Head

open Idealize.ShloMosaic
open scoped BigOperators

/-- Channel `c`'s pixel under tap `k = 3 ky + kx` of the window centred on flat position `n = 64 h + w`: the pixel
    `(h + ky - 1, w + kx - 1)`, and 0 outside the image. -/
def pix (X : Fin 256 → Fin 64 → Fin 64 → EReal) (k : Fin 9) (c : Fin 256) (n : Fin 4096) : EReal :=
  if h : (1 ≤ n.val / 64 + k.val / 3 ∧ n.val / 64 + k.val / 3 ≤ 64)
      ∧ (1 ≤ n.val % 64 + k.val % 3 ∧ n.val % 64 + k.val % 3 ≤ 64) then
    X c ⟨n.val / 64 + k.val / 3 - 1, by omega⟩ ⟨n.val % 64 + k.val % 3 - 1, by omega⟩
  else 0

/-- A tap that falls on the image reads its pixel. -/
theorem pix_inside (X : Fin 256 → Fin 64 → Fin 64 → EReal) (k : Fin 9) (c : Fin 256) (n : Fin 4096) (a b : Fin 64)
    (ha : a.val + 1 = n.val / 64 + k.val / 3) (hb : b.val + 1 = n.val % 64 + k.val % 3) : pix X k c n = X c a b := by
  unfold pix
  rw [dif_pos (by omega)]
  exact congrArg₂ (X c) (Fin.ext (by simp only []; omega)) (Fin.ext (by simp only []; omega))

/-- A tap that falls on the ring reads zero. -/
theorem pix_outside (X : Fin 256 → Fin 64 → Fin 64 → EReal) (k : Fin 9) (c : Fin 256) (n : Fin 4096)
    (h : ¬((1 ≤ n.val / 64 + k.val / 3 ∧ n.val / 64 + k.val / 3 ≤ 64)
      ∧ (1 ≤ n.val % 64 + k.val % 3 ∧ n.val % 64 + k.val % 3 ≤ 64))) : pix X k c n = 0 := by
  unfold pix
  rw [dif_neg h]

/-- The 3x3 convolution: filter `o` at position `n`, nine taps of 256 channels. -/
def conv (X : Fin 256 → Fin 64 → Fin 64 → EReal) (W : Fin 256 → Fin 256 → Fin 9 → EReal) (o : Fin 256) (n : Fin 4096) : EReal :=
  ∑ k : Fin 9, ∑ c : Fin 256, W o c k * pix X k c n

/-- The inverse root of the variance plus epsilon. -/
def rsq : EReal := (((Real.sqrt (2097173 / 2097152))⁻¹ : ℝ) : EReal)

/-- SiLU: a number times its logistic. -/
def silu (x : EReal) : EReal := x * Ideal.logistic x

/-- The hidden layer: the convolution, scaled and shifted by the batch norm, through SiLU. -/
def hidden (X : Fin 256 → Fin 64 → Fin 64 → EReal) (W : Fin 256 → Fin 256 → Fin 9 → EReal) (g b : Fin 256 → EReal)
    (o : Fin 256) (n : Fin 4096) : EReal :=
  silu (conv X W o n * (g o * rsq) + b o)

/-- One branch: the 1x1 convolution of the hidden layer, plus its bias. -/
def head {Q : ℕ} (X : Fin 256 → Fin 64 → Fin 64 → EReal) (W : Fin 256 → Fin 256 → Fin 9 → EReal) (g b : Fin 256 → EReal)
    (W2 : Fin Q → Fin 256 → EReal) (b2 : Fin Q → EReal) (q : Fin Q) (n : Fin 4096) : EReal :=
  (∑ o : Fin 256, W2 q o * hidden X W g b o n) + b2 q

end Cert.Head

end
-- ==== Proof.Branch.lean ====
/- One branch of the detection head as a function of the arrays it is given, at an index of its result. -/
module

public import proofs.«01_k».proof.Proof.Spec
public import Idealize.ShloMosaic.Lib.ValueIdx
public import Idealize.ShloMosaic.Lib.Pipeline.Value

@[expose] public section

noncomputable section

namespace Cert.Head

open Idealize.ShloMosaic Idealize.ShloMosaic.ValueIdx

/-- The image in a stack of one batch of one level. -/
def image (x : (⟨5, ![1, 1, 256, 64, 64]⟩ : Shape).Idx → EReal) (c : Fin 256) (h w : Fin 64) : EReal := x (ix5 0 0 c h w)

/-- The filters, tap `3 ky + kx` read at row `ky`, column `kx`. -/
def filters (w : (⟨4, ![256, 256, 3, 3]⟩ : Shape).Idx → EReal) (o c : Fin 256) (k : Fin 9) : EReal :=
  w (ix4 o c ⟨k.val / 3, by omega⟩ ⟨k.val % 3, by omega⟩)

/-- One branch of the head, from the image, its filters, gains, shifts, projection and bias. -/
def branch {Q : ℕ} (x : (⟨5, ![1, 1, 256, 64, 64]⟩ : Shape).Idx → EReal) (w : (⟨4, ![256, 256, 3, 3]⟩ : Shape).Idx → EReal)
    (g b : (⟨1, ![256]⟩ : Shape).Idx → EReal) (u : (⟨4, ![Q, 256, 1, 1]⟩ : Shape).Idx → EReal)
    (d : (⟨1, ![Q]⟩ : Shape).Idx → EReal) (q : Fin Q) (n : Fin 4096) : EReal :=
  head (image x) (filters w) (fun o => g (ix1 o)) (fun o => b (ix1 o)) (fun q o => u (ix4 q o 0 0)) (fun q => d (ix1 q)) q n

/-- A matrix of rows of 4096 positions laid out as maps of 64 rows of 64, at an index. -/
theorem maps {Q : ℕ} (y : (⟨2, ![Q, 4096]⟩ : Shape).Idx → EReal)
    (hs : (⟨2, ![Q, 4096]⟩ : Shape).ShapeCasts ⟨4, ![1, Q, 64, 64]⟩) (i : (⟨4, ![1, Q, 64, 64]⟩ : Shape).Idx) (n : Fin 4096)
    (hn : n.val = 64 * (i 2).val + (i 3).val) : shapeCast ⟨4, ![1, Q, 64, 64]⟩ y hs i = y (ix2 (i 1) n) := by
  refine shapeCast_apply _ _ _ _ ?_
  rw [Shape.rowMajor_val_four, Shape.rowMajor_val_two]
  have h0 : (i 0).val < 1 := (i 0).isLt
  show (i 1).val * 4096 + n.val = (((i 0).val * Q + (i 1).val) * 64 + (i 2).val) * 64 + (i 3).val
  rw [show (i 0).val = 0 by omega]
  omega

end Cert.Head

end
-- ==== Proof.Cols.lean ====
/- The flat image between two margins of 128 zeros, and its columns as the taps of the 3x3 window: a column 63 + 64 ky + kx
   past the position's own is the tap's pixel, unless the window's column falls off a row's end, where the lane masks put 0. -/
module

public import proofs.«01_k».proof.Proof.Spec
public import Idealize.ShloMosaic.Lib.ValueIdx

@[expose] public section

noncomputable section

namespace Cert.Head

open Idealize.ShloMosaic Idealize.ShloMosaic.ValueIdx

/-- The image of a flat array: row `h`, column `w` is flat position `64 h + w`. -/
def img (x : (⟨2, ![256, 4096]⟩ : Shape).Idx → EReal) (c : Fin 256) (h w : Fin 64) : EReal :=
  x (ix2 c ⟨64 * h.val + w.val, by omega⟩)

/-- Channel `c`'s column `p` of the flat array between margins of 128 zeros. -/
def col (x : (⟨2, ![256, 4096]⟩ : Shape).Idx → EReal) (c : Fin 256) (p : ℕ) : EReal :=
  if h : 128 ≤ p ∧ p < 4224 then x (ix2 c ⟨p - 128, by omega⟩) else 0

/-- The column of tap `k` at position `n`, the window's column on the image: the tap's pixel. -/
theorem col_eq_pix (x : (⟨2, ![256, 4096]⟩ : Shape).Idx → EReal) (k : Fin 9) (c : Fin 256) (n : Fin 4096) (p : ℕ)
    (hp : p = n.val + 63 + 64 * (k.val / 3) + k.val % 3)
    (h : 1 ≤ n.val % 64 + k.val % 3 ∧ n.val % 64 + k.val % 3 ≤ 64) : col x c p = pix (img x) k c n := by
  by_cases hr : 1 ≤ n.val / 64 + k.val / 3 ∧ n.val / 64 + k.val / 3 ≤ 64
  · rw [pix_inside (img x) k c n ⟨n.val / 64 + k.val / 3 - 1, by omega⟩ ⟨n.val % 64 + k.val % 3 - 1, by omega⟩
      (by simp only []; omega) (by simp only []; omega)]
    unfold col img
    rw [dif_pos (by omega)]
    exact congrArg (fun a => x (ix2 c a)) (Fin.ext (by simp only []; omega))
  · rw [pix_outside _ _ _ _ fun hh => hr hh.1]
    unfold col
    rw [dif_neg (by omega)]

/-- A left tap: its column times the left mask. -/
theorem pix_left (x : (⟨2, ![256, 4096]⟩ : Shape).Idx → EReal) (k : Fin 9) (c : Fin 256) (n : Fin 4096) (p : ℕ)
    (hp : p = n.val + 63 + 64 * (k.val / 3) + k.val % 3) (hk : k.val % 3 = 0) :
    col x c p * (if n.val % 64 = 0 then 0 else 1) = pix (img x) k c n := by
  split_ifs with h
  · rw [mul_zero, pix_outside _ _ _ _ (by omega)]
  · rw [mul_one, col_eq_pix x k c n p hp (by omega)]

/-- A middle tap: its column. -/
theorem pix_middle (x : (⟨2, ![256, 4096]⟩ : Shape).Idx → EReal) (k : Fin 9) (c : Fin 256) (n : Fin 4096) (p : ℕ)
    (hp : p = n.val + 63 + 64 * (k.val / 3) + k.val % 3) (hk : k.val % 3 = 1) : col x c p = pix (img x) k c n :=
  col_eq_pix x k c n p hp (by omega)

/-- A right tap: its column times the right mask. -/
theorem pix_right (x : (⟨2, ![256, 4096]⟩ : Shape).Idx → EReal) (k : Fin 9) (c : Fin 256) (n : Fin 4096) (p : ℕ)
    (hp : p = n.val + 63 + 64 * (k.val / 3) + k.val % 3) (hk : k.val % 3 = 2) :
    col x c p * (if n.val % 64 = 63 then 0 else 1) = pix (img x) k c n := by
  split_ifs with h
  · rw [mul_zero, pix_outside _ _ _ _ (by omega)]
  · rw [mul_one, col_eq_pix x k c n p hp (by omega)]

end Cert.Head

end
-- ==== Proof.KArgs.lean ====
/- What the kernel's arrays hold when the grid starts, at an index, in the arguments' own terms; and the blocks its steps
   are given, which are those arrays whole. -/
module

public import proofs.«01_k».proof.Proof.Branch
public import proofs.«01_k».proof.Proof.Cols
public import proofs.«01_k».proof.Proof.Gen.KernelIdeal.Frame
public import Idealize.ShloMosaic.Lib.ValueIdx
public import Idealize.ShloMosaic.Lib.Pipeline.Value
public import Idealize.ShloMosaic.Lib.StableHlo.Run
public import Idealize.ShloMosaic.Lib.Tactic

@[expose] public section

noncomputable section

namespace Cert.Head.KArgs

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-- The kernel's image, weights, gains, shifts, projections and biases, as the host's lines make them. -/
theorem entry :
    (V m c main_v5 : Vec Ideal S256x4096 .bf16)
        = shapeCast S256x4096 (m ((c : Thread nD τ).loc main_arg0) : Vec Ideal S1x1x256x64x64 .f32) shapeCasts_S1x1x256x64x64_S256x4096
    ∧ (V m c main_v3 : Vec Ideal S9x512x256 .bf16)
        = transpose S9x512x256 [2, 0, 1] (shapeCast S512x256x9 (concatenate S512x256x3x3 0
            [⟨S256x256x3x3, (m ((c : Thread nD τ).loc main_arg3) : Vec Ideal S256x256x3x3 .f32)⟩,
             ⟨S256x256x3x3, (m ((c : Thread nD τ).loc main_arg8) : Vec Ideal S256x256x3x3 .f32)⟩]
            concatenates_S256x256x3x3_S256x256x3x3_S512x256x3x3_d0) shapeCasts_S512x256x3x3_S512x256x9)
            transposes_S512x256x9_S9x512x256_2_0_1
    ∧ (V m c main_v6 : Vec Ideal S1x256 .f32) = shapeCast S1x256 (m ((c : Thread nD τ).loc main_arg4) : Vec Ideal S256 .f32) shapeCasts_S256_S1x256
    ∧ (V m c main_v7 : Vec Ideal S1x256 .f32) = shapeCast S1x256 (m ((c : Thread nD τ).loc main_arg5) : Vec Ideal S256 .f32) shapeCasts_S256_S1x256
    ∧ (V m c main_v8 : Vec Ideal S1x256 .f32) = shapeCast S1x256 (m ((c : Thread nD τ).loc main_arg9) : Vec Ideal S256 .f32) shapeCasts_S256_S1x256
    ∧ (V m c main_v9 : Vec Ideal S1x256 .f32) = shapeCast S1x256 (m ((c : Thread nD τ).loc main_arg10) : Vec Ideal S256 .f32) shapeCasts_S256_S1x256
    ∧ (V m c main_v10 : Vec Ideal S80x256 .f32) = shapeCast S80x256 (m ((c : Thread nD τ).loc main_arg6) : Vec Ideal S80x256x1x1 .f32) shapeCasts_S80x256x1x1_S80x256
    ∧ (V m c main_v11 : Vec Ideal S1x80 .f32) = shapeCast S1x80 (m ((c : Thread nD τ).loc main_arg7) : Vec Ideal S80 .f32) shapeCasts_S80_S1x80
    ∧ (V m c main_v12 : Vec Ideal S68x256 .f32) = shapeCast S68x256 (m ((c : Thread nD τ).loc main_arg11) : Vec Ideal S68x256x1x1 .f32) shapeCasts_S68x256x1x1_S68x256
    ∧ (V m c main_v13 : Vec Ideal S1x68 .f32) = shapeCast S1x68 (m ((c : Thread nD τ).loc main_arg12) : Vec Ideal S68 .f32) shapeCasts_S68_S1x68 := by
  refine ⟨?_, ?_, ?_, ?_, ?_, ?_, ?_, ?_, ?_, ?_⟩ <;>
    · unfold V V0 hostOps0
      simp only [List.flatten_cons, List.flatten_nil, List.append_nil, List.cons_append, List.nil_append]
      after_results
      rfl

/-- An array read through a block of its own sizes at block index 0 is the array. -/
theorem whole (b : Ref sig .tc) (idx : Fin b.ty.shape.rank → ℕ) (h : ∀ a, idx a = 0)
    (inb : ∀ a, idx a * b.ty.shape.size a + b.ty.shape.size a ≤ b.ty.shape.size a) (X : b.ty.Contents (Elt Ideal)) :
    ((Memref.whole b).access (Rect.unit (fun a => idx a * b.ty.shape.size a) b.ty.shape.size inb)).read (Elt Ideal) X = X :=
  Memref.read_access_unit_zero (Elt Ideal) b (funext fun a => by rw [h a, Nat.zero_mul]) inb X

/-- Each step's block of an input is its array. -/
theorem blocks (t : Fin cfg0.N) :
    iblk m c 0 t = V m c main_v5 ∧ iblk m c 1 t = V m c main_v3 ∧ iblk m c 2 t = V m c main_v6 ∧ iblk m c 3 t = V m c main_v7
    ∧ iblk m c 4 t = V m c main_v8 ∧ iblk m c 5 t = V m c main_v9 ∧ iblk m c 6 t = V m c main_v10 ∧ iblk m c 7 t = V m c main_v11
    ∧ iblk m c 8 t = V m c main_v12 ∧ iblk m c 9 t = V m c main_v13 := by
  have h2 (i : grid0.Coords) (a : Fin 2) : cc0_transform_0 i a = 0 := by fin_cases a <;> rfl
  have h3 (i : grid0.Coords) (a : Fin 3) : cc0_transform_1 i a = 0 := by fin_cases a <;> rfl
  exact ⟨whole main_v5 (win0_0.index t) (h2 (grid0.coords t)) _ _, whole main_v3 (win0_1.index t) (h3 (grid0.coords t)) _ _,
    whole main_v6 (win0_2.index t) (h2 (grid0.coords t)) _ _, whole main_v7 (win0_3.index t) (h2 (grid0.coords t)) _ _,
    whole main_v8 (win0_4.index t) (h2 (grid0.coords t)) _ _, whole main_v9 (win0_5.index t) (h2 (grid0.coords t)) _ _,
    whole main_v10 (win0_6.index t) (h2 (grid0.coords t)) _ _, whole main_v11 (win0_7.index t) (h2 (grid0.coords t)) _ _,
    whole main_v12 (win0_8.index t) (h2 (grid0.coords t)) _ _, whole main_v13 (win0_9.index t) (h2 (grid0.coords t)) _ _⟩

/-- The kernel's image at an index. -/
theorem image_eq (ch : Fin 256) (h w : Fin 64) :
    (V m c main_v5 : Vec Ideal S256x4096 .bf16) (ix2 ch ⟨64 * h.val + w.val, by omega⟩)
      = image (m ((c : Thread nD τ).loc main_arg0) : Vec Ideal S1x1x256x64x64 .f32) ch h w := by
  rw [(entry m c).1]
  refine shapeCast_apply _ _ _ (ix5 0 0 ch h w) ?_
  rw [Shape.rowMajor_val_five, Shape.rowMajor_val_two]
  show (((0 * 1 + 0) * 256 + ch.val) * 64 + h.val) * 64 + w.val = ch.val * 4096 + (64 * h.val + w.val)
  omega

/-- The kernel's stacked filters as a row of nine taps. -/
theorem taps (W : Vec Ideal S512x256x3x3 .f32) (k : Fin 9) (r : Fin 512) (ch : Fin 256) :
    transpose S9x512x256 [2, 0, 1] (shapeCast S512x256x9 W shapeCasts_S512x256x3x3_S512x256x9)
        transposes_S512x256x9_S9x512x256_2_0_1 (ix3 k r ch)
      = W (ix4 r ch ⟨k.val / 3, by omega⟩ ⟨k.val % 3, by omega⟩) := by
  refine (transpose_apply _ _ _ (ix3 k r ch) (ix3 r ch k) fun a => ?_).trans (shapeCast_apply W _ _ _ ?_)
  · match a with
    | ⟨0, _⟩ => rfl
    | ⟨1, _⟩ => rfl
    | ⟨2, _⟩ => rfl
  · rw [Shape.rowMajor_val_four, Shape.rowMajor_val_three]
    show ((r.val * 256 + ch.val) * 3 + k.val / 3) * 3 + k.val % 3 = (r.val * 256 + ch.val) * 9 + k.val
    omega

/-- Rows 0 to 255 of the kernel's weights are the first branch's filters, -/
theorem filters_cls (k : Fin 9) (o ch : Fin 256) :
    (V m c main_v3 : Vec Ideal S9x512x256 .bf16) (ix3 k ⟨0 + o.val, by omega⟩ ch)
      = filters (m ((c : Thread nD τ).loc main_arg3) : Vec Ideal S256x256x3x3 .f32) o ch k := by
  rw [(entry m c).2.1, taps]
  refine concatenate_pair_apply_left (t := S512x256x3x3) (s₁ := S256x256x3x3) (s₂ := S256x256x3x3) 0 _ _ _ _ rfl (ix4 o ch ⟨k.val / 3, by omega⟩ ⟨k.val % 3, by omega⟩ : S256x256x3x3.Idx) fun b => ?_
  match b with
  | ⟨0, _⟩ => exact (Nat.zero_add _).symm
  | ⟨1, _⟩ => rfl
  | ⟨2, _⟩ => rfl
  | ⟨3, _⟩ => rfl

/-- and rows 256 to 511 the second's. -/
theorem filters_reg (k : Fin 9) (o ch : Fin 256) :
    (V m c main_v3 : Vec Ideal S9x512x256 .bf16) (ix3 k ⟨256 + o.val, by omega⟩ ch)
      = filters (m ((c : Thread nD τ).loc main_arg8) : Vec Ideal S256x256x3x3 .f32) o ch k := by
  rw [(entry m c).2.1, taps]
  refine concatenate_pair_apply_right (t := S512x256x3x3) (s₁ := S256x256x3x3) (s₂ := S256x256x3x3) 0 _ _ _ _ rfl rfl (ix4 o ch ⟨k.val / 3, by omega⟩ ⟨k.val % 3, by omega⟩ : S256x256x3x3.Idx) (fun b hb => ?_)
    (Nat.add_comm o.val 256)
  match b, hb with
  | ⟨0, _⟩, hb => exact absurd rfl hb
  | ⟨1, _⟩, _ => rfl
  | ⟨2, _⟩, _ => rfl
  | ⟨3, _⟩, _ => rfl

/-- A vector laid out as a row, at an index. -/
theorem row {Q : ℕ} (v : (⟨1, ![Q]⟩ : Shape).Idx → EReal) (h : (⟨1, ![Q]⟩ : Shape).ShapeCasts ⟨2, ![1, Q]⟩) (q : Fin Q) :
    shapeCast ⟨2, ![1, Q]⟩ v h (ix2 0 q) = v (ix1 q) := by
  refine shapeCast_apply _ _ _ _ ?_
  rw [Shape.rowMajor_val_one, Shape.rowMajor_val_two]
  show q.val = 0 * Q + q.val
  omega

/-- A stack of 1x1 filters laid out as a matrix, at an index. -/
theorem matrix {Q : ℕ} (v : (⟨4, ![Q, 256, 1, 1]⟩ : Shape).Idx → EReal)
    (h : (⟨4, ![Q, 256, 1, 1]⟩ : Shape).ShapeCasts ⟨2, ![Q, 256]⟩) (q : Fin Q) (o : Fin 256) :
    shapeCast ⟨2, ![Q, 256]⟩ v h (ix2 q o) = v (ix4 q o 0 0) := by
  refine shapeCast_apply _ _ _ _ ?_
  rw [Shape.rowMajor_val_four, Shape.rowMajor_val_two]
  show ((q.val * 256 + o.val) * 1 + 0) * 1 + 0 = q.val * 256 + o.val
  omega

/-- The image, as the columns' image. -/
theorem img_eq :
    img (V m c main_v5 : Vec Ideal S256x4096 .bf16) = image (m ((c : Thread nD τ).loc main_arg0) : Vec Ideal S1x1x256x64x64 .f32) :=
  funext fun ch => funext fun h => funext fun w => image_eq m c ch h w

end Cert.Head.KArgs

end
-- ==== Proof.KOut.lean ====
/- The kernel's two 1x1 convolutions at an index, and the columns of scales and shifts it keeps between steps. -/
module

public import proofs.«01_k».proof.Proof.Spec
public import proofs.«01_k».proof.Proof.Gen.KernelIdeal
public import proofs.«01_k».proof.Proof.Gen.KernelIdeal.Skeleton
public import Idealize.ShloMosaic.Lib.MatmulPlain
public import Idealize.ShloMosaic.Lib.ValueIdx
public import Idealize.ShloMosaic.Lib.Pipeline.Value

@[expose] public section

noncomputable section

namespace Cert.Head.KOut

open Cert.KernelIdeal Cert.KernelIdeal.Gen Idealize.ShloMosaic Idealize.ShloMosaic.ValueIdx
open scoped BigOperators

/-- A row of numbers stood up as a column, read at a row. -/
theorem column {Q : ℕ} (b : (⟨2, ![1, Q]⟩ : Shape).Idx → EReal) (h₁ : (⟨2, ![1, Q]⟩ : Shape).ShapeCasts ⟨1, ![Q]⟩)
    (h₂ : (⟨1, ![Q]⟩ : Shape).ShapeCasts ⟨2, ![Q, 1]⟩) (q : Fin Q) :
    shapeCast ⟨2, ![Q, 1]⟩ (shapeCast ⟨1, ![Q]⟩ b h₁) h₂ (ix2 q 0) = b (ix2 0 q) := by
  refine (shapeCast_apply _ h₂ (ix2 q 0) (ix1 q) ?_).trans (shapeCast_apply b h₁ (ix1 q) (ix2 0 q) ?_)
  · rw [Shape.rowMajor_val_one, Shape.rowMajor_val_two]
    show q.val = q.val * 1 + 0
    omega
  · rw [Shape.rowMajor_val_one, Shape.rowMajor_val_two]
    show 0 * Q + q.val = q.val
    omega

/-- A 1x1 convolution of 256 of the hidden rows, those from row `off` on, plus its bias. -/
theorem project {Q off : ℕ} (hoff : off + 256 ≤ 512) (v : FVec Ideal S512x1024 .bf16)
    (w : FVec Ideal ⟨2, ![Q, 256]⟩ .bf16) (b : (⟨2, ![1, Q]⟩ : Shape).Idx → EReal)
    (hv : S512x1024.Slices ![off, 0] S256x1024) (h₁ : (⟨2, ![1, Q]⟩ : Shape).ShapeCasts ⟨1, ![Q]⟩)
    (h₂ : (⟨1, ![Q]⟩ : Shape).ShapeCasts ⟨2, ![Q, 1]⟩) (h₃ : (⟨2, ![Q, 1]⟩ : Shape).Broadcasts ⟨2, ![Q, 1024]⟩)
    (q : Fin Q) (j : Fin 1024) :
    (addf (matmul (DotDims.plain Q 256 1024) none w
        (extractStridedSlice S256x1024 ![off, 0] v hv : FVec Ideal S256x1024 .bf16)
        (constant ⟨2, ![Q, 1024]⟩ .f32 0x00000000#32))
      (broadcastTo ⟨2, ![Q, 1024]⟩ (shapeCast ⟨2, ![Q, 1]⟩ (shapeCast ⟨1, ![Q]⟩ b h₁) h₂) h₃) : FVec Ideal ⟨2, ![Q, 1024]⟩ .f32)
        (ix2 q j)
      = (∑ o : Fin 256, w (ix2 q o) * v (ix2 ⟨off + o.val, by omega⟩ j)) + b (ix2 0 q) := by
  have hb : broadcastTo ⟨2, ![Q, 1024]⟩ (shapeCast ⟨2, ![Q, 1]⟩ (shapeCast ⟨1, ![Q]⟩ b h₁) h₂) h₃ (ix2 q j) = b (ix2 0 q) := by
    refine (broadcastTo_apply _ h₃ (ix2 q j) (ix2 q 0) fun a => ?_).trans (column b h₁ h₂ q)
    match a with
    | ⟨0, _⟩ =>
      show q.val = if Q = 1 then 0 else q.val
      split_ifs with hq
      · omega
      · rfl
    | ⟨1, _⟩ => rfl
  rw [addf_apply, hb]
  refine congrArg (· + b (ix2 0 q)) ((Ideal.matmul_plain_apply none _ _ _ q j).trans ?_)
  have h0 : (constant ⟨2, ![Q, 1024]⟩ .f32 0x00000000#32 : FVec Ideal ⟨2, ![Q, 1024]⟩ .f32) (ix2 q j) = 0 := by
    simp [constant, Ideal.ofBits, Ideal.ieee]
  rw [h0, zero_add]
  refine Finset.sum_congr rfl fun o _ => congrArg (w (ix2 q o) * ·) ?_
  exact extractStridedSlice_apply _ _ _ _ _ fun a => match a with
    | ⟨0, _⟩ => rfl
    | ⟨1, _⟩ => (Nat.zero_add _).symm

/-- The class scores a step stores: the 1x1 convolution of the hidden rows 0 to 255, plus its bias. -/
theorem scores (v : FVec Ideal S512x1024 .bf16) (w : Vec Ideal S80x256 .f32) (b : Vec Ideal S1x80 .f32) (q : Fin 80)
    (j : Fin 1024) :
    k0_pay1 v w b (ix2 q j) = (∑ o : Fin 256, w (ix2 q o) * v (ix2 ⟨0 + o.val, by omega⟩ j)) + b (ix2 0 q) := by
  unfold k0_pay1
  simp only [shapeCast_self]
  exact project (by norm_num) v w b slices_S512x1024_o0_0_S256x1024 _ _ _ q j

/-- The box distances a step stores: the 1x1 convolution of the hidden rows 256 to 511, plus its bias. -/
theorem boxes (v : FVec Ideal S512x1024 .bf16) (w : Vec Ideal S68x256 .f32) (b : Vec Ideal S1x68 .f32) (q : Fin 68)
    (j : Fin 1024) :
    k0_pay2 v w b (ix2 q j) = (∑ o : Fin 256, w (ix2 q o) * v (ix2 ⟨256 + o.val, by omega⟩ j)) + b (ix2 0 q) := by
  unfold k0_pay2
  simp only [shapeCast_self]
  exact project (by norm_num) v w b slices_S512x1024_o256_0_S256x1024 _ _ _ q j

/-- A column of scales: the gains times the inverse root, for the first branch -/
theorem scale_cls (g : Vec Ideal S1x256 .f32) (o : Fin 256) : k0_pay6 (F := Ideal) g (ix2 o 0) = g (ix2 0 o) * rsq := by
  unfold k0_pay6
  simp only [shapeCast_self, mulf_apply]
  rw [column g _ _ o]
  exact congrArg (g (ix2 0 o) * ·) (IdealRules.named_const.ideal_named_scalar _ _ _ _ rfl)

/-- and for the second. -/
theorem scale_reg (g : Vec Ideal S1x256 .f32) (o : Fin 256) : k0_pay7 (F := Ideal) g (ix2 o 0) = g (ix2 0 o) * rsq :=
  scale_cls g o

/-- A column of shifts, for the first branch -/
theorem shift_cls (b : Vec Ideal S1x256 .f32) (o : Fin 256) : k0_pay9 (k0_pay8 (F := Ideal) b) (ix2 o 0) = b (ix2 0 o) := by
  unfold k0_pay9 k0_pay8
  simp only [shapeCast_self]
  exact column b _ _ o

/-- and for the second. -/
theorem shift_reg (b : Vec Ideal S1x256 .f32) (o : Fin 256) : k0_pay10 (F := Ideal) b (ix2 o 0) = b (ix2 0 o) := by
  unfold k0_pay10
  simp only [shapeCast_self]
  exact column b _ _ o

/-- The margins' columns are zeros. -/
theorem margin (i : S256x128.Idx) : k0_pay3 (F := Ideal) i = 0 ∧ k0_pay4 (F := Ideal) i = 0 := by
  unfold k0_pay3 k0_pay4
  simp [shapeCast_self, broadcast, Scalar.ofBits, FloatOps.ofBits, Ideal.ofBits, Ideal.ieee]

/-- The image's columns are the array's. -/
theorem image (x : Vec Ideal S256x4096 .bf16) : k0_pay5 (F := Ideal) x = x := by
  unfold k0_pay5
  simp only [shapeCast_self]

end Cert.Head.KOut

end
-- ==== Proof.KKept.lean ====
/- What the body keeps between steps, as functions of an index: the padded image, the column of scales, the column of
   shifts. Each is a list of stored pieces, read back. -/
module

public import proofs.«01_k».proof.Proof.KOut
public import proofs.«01_k».proof.Proof.Cols
public import Idealize.ShloMosaic.Lib.Pipeline.FrameBody

@[expose] public section

noncomputable section

namespace Cert.Head.KKept

open Cert.KernelIdeal Cert.KernelIdeal.Gen Idealize.ShloMosaic Idealize.ShloMosaic.ValueIdx

/-- The padded image's pieces, last stored first: the array's columns, the right margin, the left margin. -/
def padded (x : Vec Ideal S256x4096 .bf16) : List (View.Piece (Elt Ideal) S256x4352 .bf16) :=
  [⟨Rect.unit ![0, 128] S256x4096.size inb_S256x4352_S256x4096_0_128, k0_pay5 (F := Ideal) x⟩,
   ⟨Rect.unit ![0, 4224] S256x128.size inb_S256x4352_S256x128_0_4224, k0_pay4 (F := Ideal)⟩,
   ⟨Rect.unit ![0, 0] S256x128.size inb_S256x4352_S256x128_0_0, k0_pay3 (F := Ideal)⟩]

/-- Two stored columns, last stored first: the second branch's below the first's. -/
def stacked (lower upper : Vec Ideal S256x1 .f32) : List (View.Piece (Elt Ideal) S512x1 .f32) :=
  [⟨Rect.unit ![256, 0] S256x1.size inb_S512x1_S256x1_256_0, lower⟩,
   ⟨Rect.unit ![0, 0] S256x1.size inb_S512x1_S256x1_0_0, upper⟩]

/-- A piece stored at unit stride, read at an index of its own: its payload there. -/
theorem canon_at {s : Shape} {e : EltTy} {off size : Fin s.rank → ℕ} (inb : ∀ a, off a + size a ≤ s.size a)
    (w : (Rect.unit off size inb).shape.Idx → Elt Ideal e) (L : List (View.Piece (Elt Ideal) s e)) (y : s.Idx)
    (x : (Rect.unit off size inb).shape.Idx) (h : ∀ a, (y a).val = off a + (x a).val) :
    View.canon (⟨Rect.unit off size inb, w⟩ :: L) y = w x := by
  have hy : y = (Rect.unit off size inb).emb x := funext fun a => Fin.ext
    ((h a).trans (congrArg (off a + ·) (Nat.one_mul (x a).val).symm))
  rw [hy, View.canon_cons_emb]

/-- A piece stored at unit stride, read at an index outside it: the earlier pieces. -/
theorem canon_off {s : Shape} {e : EltTy} {off size : Fin s.rank → ℕ} (inb : ∀ a, off a + size a ≤ s.size a)
    (w : (Rect.unit off size inb).shape.Idx → Elt Ideal e) (L : List (View.Piece (Elt Ideal) s e)) (y : s.Idx)
    (a : Fin s.rank) (h : (y a).val < off a ∨ off a + size a ≤ (y a).val) :
    View.canon (⟨Rect.unit off size inb, w⟩ :: L) y = View.canon L y := by
  refine View.canon_cons_of_not_mem _ _ fun hm => ?_
  have hm' : y ∈ (Rect.unit off size inb).set := hm
  rw [Rect.mem_set_unit] at hm'
  have := hm' a
  omega

/-- The padded image's columns. -/
theorem padded_apply (x : Vec Ideal S256x4096 .bf16) (c : Fin 256) (p : Fin 4352) :
    View.canon (padded x) (ix2 c p) = col x c p.val := by
  unfold padded col
  by_cases h : 128 ≤ p.val ∧ p.val < 4224
  · rw [dif_pos h, KOut.image]
    refine canon_at inb_S256x4352_S256x4096_0_128 x _ (ix2 c p) (ix2 c (⟨p.val - 128, by omega⟩ : Fin 4096)) fun a => ?_
    match a with
    | ⟨0, _⟩ => exact (Nat.zero_add _).symm
    | ⟨1, _⟩ => show p.val = 128 + (p.val - 128); omega
  · rw [dif_neg h, canon_off _ _ _ _ 1 (by show p.val < 128 ∨ 128 + 4096 ≤ p.val; omega)]
    by_cases hr : 4224 ≤ p.val
    · refine (canon_at (s := S256x4352) (e := .bf16) (off := ![0, 4224]) (size := S256x128.size) inb_S256x4352_S256x128_0_4224 (k0_pay4 (F := Ideal)) _ (ix2 c p)
        (ix2 c (⟨p.val - 4224, by omega⟩ : Fin 128)) fun a => ?_).trans (KOut.margin (ix2 c (⟨p.val - 4224, by omega⟩ : Fin 128))).2
      match a with
      | ⟨0, _⟩ => exact (Nat.zero_add _).symm
      | ⟨1, _⟩ => show p.val = 4224 + (p.val - 4224); omega
    · rw [canon_off _ _ _ _ 1 (by show p.val < 4224 ∨ 4224 + 128 ≤ p.val; omega)]
      refine (canon_at (s := S256x4352) (e := .bf16) (off := ![0, 0]) (size := S256x128.size) inb_S256x4352_S256x128_0_0 (k0_pay3 (F := Ideal)) _ (ix2 c p)
        (ix2 c (⟨p.val, by omega⟩ : Fin 128)) fun a => ?_).trans (KOut.margin (ix2 c (⟨p.val, by omega⟩ : Fin 128))).1
      match a with
      | ⟨0, _⟩ => exact (Nat.zero_add _).symm
      | ⟨1, _⟩ => exact (Nat.zero_add _).symm

/-- The upper of two stacked columns, -/
theorem stacked_upper (l u : Vec Ideal S256x1 .f32) (o : Fin 256) :
    View.canon (stacked l u) (ix2 ⟨0 + o.val, by omega⟩ 0) = u (ix2 o 0) := by
  unfold stacked
  rw [canon_off _ _ _ _ 0 (Or.inl (by show 0 + o.val < 256; omega))]
  refine canon_at (s := S512x1) (off := ![0, 0]) (size := S256x1.size) inb_S512x1_S256x1_0_0 u _ _ (ix2 o 0) fun a => ?_
  match a with
  | ⟨0, _⟩ => rfl
  | ⟨1, _⟩ => rfl

/-- and the lower. -/
theorem stacked_lower (l u : Vec Ideal S256x1 .f32) (o : Fin 256) :
    View.canon (stacked l u) (ix2 ⟨256 + o.val, by omega⟩ 0) = l (ix2 o 0) := by
  unfold stacked
  refine canon_at (s := S512x1) (off := ![256, 0]) (size := S256x1.size) inb_S512x1_S256x1_256_0 l _ _ (ix2 o 0) fun a => ?_
  match a with
  | ⟨0, _⟩ => rfl
  | ⟨1, _⟩ => rfl

end Cert.Head.KKept

end
-- ==== Proof.KMask.lean ====
/- The two lane masks of the kernel's body at an index: lane `j` is not the first, and not the last, of its row of 64. -/
module

public import proofs.«01_k».proof.Proof.Gen.KernelIdeal.Skeleton
public import Idealize.ShloMosaic.Lib.ValueIdx

@[expose] public section

noncomputable section

namespace Cert.Head.KMask

open Cert.KernelIdeal Cert.KernelIdeal.Gen Idealize.ShloMosaic Idealize.ShloMosaic.ValueIdx

/-- A lane number's remainder by 64, in the kernel's words: the signed remainder, moved up by 64 if it came out negative. -/
def rem64 (w : BitVec 32) : BitVec 32 :=
  Scalar.select (IntOp.andi (IntOp.xori (IntOp.cmpi .slt (IntOp.remsi .vector w 64#32) 0#32) (IntOp.cmpi .slt 64#32 0#32))
    (IntOp.cmpi .ne (IntOp.remsi .vector w 64#32) 0#32)) (IntOp.addi (IntOp.remsi .vector w 64#32) 64#32)
    (IntOp.remsi .vector w 64#32)

/-- Whether the remainder word differs from `r`. -/
def differs (w r : BitVec 32) : BitVec 32 := (IntOp.cmpi .ne (rem64 w) r).setWidth 32

/-- On the 1024 lanes the comparison with 0 says whether the lane is the first of its row of 64. -/
theorem differs_first (j : Fin 1024) : (differs (BitVec.ofNat 32 j.val) 0#32).toInt = if j.val % 64 = 0 then 0 else 1 := by
  revert j; decide +kernel

/-- On the 1024 lanes the comparison with 63 says whether the lane is the last of its row of 64. -/
theorem differs_last (j : Fin 1024) : (differs (BitVec.ofNat 32 j.val) 63#32).toInt = if j.val % 64 = 63 then 0 else 1 := by
  revert j; decide +kernel

/-- The left mask: 0 on the first lane of each row of 64, else 1. -/
theorem left (j : Fin 1024) : k0_pay11 (F := Ideal) (ix2 0 j) = if j.val % 64 = 0 then 0 else 1 := by
  have h : k0_pay11 (F := Ideal) (ix2 0 j) = (((differs (BitVec.ofNat 32 (0 * 1024 + j.val)) 0#32).toInt : ℝ) : EReal) := rfl
  rw [h, Nat.zero_mul, Nat.zero_add, differs_first]
  split_ifs <;> norm_num

/-- The right mask: 0 on the last lane of each row of 64, else 1. -/
theorem right (j : Fin 1024) :
    k0_pay14 (F := Ideal) 64#32 k0_pay12 k0_pay13 (ix2 0 j) = if j.val % 64 = 63 then 0 else 1 := by
  have h : k0_pay14 (F := Ideal) 64#32 k0_pay12 k0_pay13 (ix2 0 j)
      = (((differs (BitVec.ofNat 32 (0 * 1024 + j.val)) 63#32).toInt : ℝ) : EReal) := rfl
  rw [h, Nat.zero_mul, Nat.zero_add, differs_last]
  split_ifs <;> norm_num

end Cert.Head.KMask

end
-- ==== Proof.KHidden.lean ====
/- The hidden layer of the kernel's body at an index: nine taps summed, scaled and shifted per row, through SiLU. -/
module

public import proofs.«01_k».proof.Proof.KMask
public import proofs.«01_k».proof.Proof.Cols
public import Idealize.ShloMosaic.Lib.MatmulPlain
public import Idealize.ShloMosaic.Lib.Pipeline.Value

@[expose] public section

noncomputable section

namespace Cert.Head.KHidden

open Cert.KernelIdeal Cert.KernelIdeal.Gen Idealize.ShloMosaic Idealize.ShloMosaic.ValueIdx
open scoped BigOperators

/-- One tap's product: the weights' row times the tap's columns, over the channels. -/
theorem tap (w : Vec Ideal S1x512x256 .bf16) (y : FVec Ideal S256x1024 .bf16) (r : Fin 512) (j : Fin 1024) :
    matmul dot_S512x256_S256x1024_S512x1024_1_0_0_1_n_n none
        (shapeCast S512x256 w shapeCasts_S1x512x256_S512x256 : FVec Ideal S512x256 .bf16) y
        (constant S512x1024 .f32 0x00000000#32) (ix2 r j)
      = ∑ c : Fin 256, w (ix3 0 r c) * y (ix2 c j) := by
  refine (Ideal.matmul_plain_apply none _ y _ r j).trans ?_
  have h0 : (constant S512x1024 .f32 0x00000000#32 : FVec Ideal S512x1024 .f32) (ix2 r j) = 0 := by
    simp [constant, Ideal.ofBits, Ideal.ieee]
  rw [h0, zero_add]
  refine Finset.sum_congr rfl fun c _ => congrArg (· * y (ix2 c j)) ?_
  exact shapeCast_apply w _ _ _ (by simp [Shape.rowMajor_val_two, Shape.rowMajor_val_three])

/-- A tap's columns: the loaded columns moved by the tap's offset. -/
theorem cut (off : ℕ) (hoff : off + 1024 ≤ 1280) (h : S256x1280.Slices ![0, off] S256x1024) (v : Vec Ideal S256x1280 .bf16)
    (c : Fin 256) (j : Fin 1024) :
    (extractStridedSlice S256x1024 ![0, off] v h : FVec Ideal S256x1024 .bf16) (ix2 c j) = v (ix2 c ⟨off + j.val, by omega⟩) :=
  extractStridedSlice_apply _ _ _ _ _ fun a => match a with
    | ⟨0, _⟩ => (Nat.zero_add _).symm
    | ⟨1, _⟩ => rfl

/-- A mask of one row, read on any channel. -/
theorem mask (y : FVec Ideal S1x1024 .bf16) (c : Fin 256) (j : Fin 1024) :
    (broadcastTo S256x1024 y broadcasts_S1x1024_S256x1024 : FVec Ideal S256x1024 .bf16) (ix2 c j) = y (ix2 0 j) :=
  broadcastTo_apply y _ _ _ fun a => match a with
    | ⟨0, _⟩ => rfl
    | ⟨1, _⟩ => rfl

/-- A vector of one column, read on any lane. -/
theorem lanes (y : Vec Ideal S512x1 .f32) (r : Fin 512) (j : Fin 1024) :
    (broadcastTo S512x1024 y broadcasts_S512x1_S512x1024 : FVec Ideal S512x1024 .f32) (ix2 r j) = y (ix2 r 0) :=
  broadcastTo_apply y _ _ _ fun a => match a with
    | ⟨0, _⟩ => rfl
    | ⟨1, _⟩ => rfl

/-- A vector's logistic at an index. -/
theorem logisticAt (y : FVec Ideal S512x1024 .f32) (i : S512x1024.Idx) : logistic y i = Ideal.logistic (y i) := rfl

/-- The first four taps of the sum. -/
theorem taps4 (v : Vec Ideal S256x1280 .bf16) (w0 w1 w2 w3 : Vec Ideal S1x512x256 .bf16) (r : Fin 512) (j : Fin 1024) :
    k0_pay15 v k0_pay11 64#32 k0_pay12 k0_pay13 w0 w1 w2 w3 (ix2 r j)
      = (∑ c : Fin 256, w0 (ix3 0 r c) * (v (ix2 c ⟨63 + j.val, by omega⟩) * (if j.val % 64 = 0 then 0 else 1)))
        + (∑ c : Fin 256, w1 (ix3 0 r c) * v (ix2 c ⟨64 + j.val, by omega⟩))
        + (∑ c : Fin 256, w2 (ix3 0 r c) * (v (ix2 c ⟨65 + j.val, by omega⟩) * (if j.val % 64 = 63 then 0 else 1)))
        + (∑ c : Fin 256, w3 (ix3 0 r c) * (v (ix2 c ⟨127 + j.val, by omega⟩) * (if j.val % 64 = 0 then 0 else 1))) := by
  have h0 : (broadcast S512x1024 (Scalar.ofBits .f32 0x00000000#32 : Ideal .f32) : FVec Ideal S512x1024 .f32) (ix2 r j) = 0 := by
    simp [broadcast, Scalar.ofBits, FloatOps.ofBits, Ideal.ofBits, Ideal.ieee]
  unfold k0_pay15
  simp only [addf_apply, mulf_apply, h0, tap, zero_add, mask, KMask.left, KMask.right, cut 63 (by norm_num),
    cut 64 (by norm_num), cut 65 (by norm_num), cut 127 (by norm_num)]

/-- The hidden layer of the body: row `r`'s nine taps, times the row's scale plus its shift, through SiLU. -/
theorem layer (v : Vec Ideal S256x1280 .bf16) (w0 w1 w2 w3 w4 w5 w6 w7 w8 : Vec Ideal S1x512x256 .bf16)
    (s b : Vec Ideal S512x1 .f32) (r : Fin 512) (j : Fin 1024) :
    k0_pay18 v k0_pay11 (k0_pay14 64#32 k0_pay12 k0_pay13) (k0_pay15 v k0_pay11 64#32 k0_pay12 k0_pay13 w0 w1 w2 w3)
        (k0_pay16 v) (k0_pay17 w4) (constant S512x1024 .f32 0x00000000#32) w5 w6 w7 w8 s b (ix2 r j)
      = silu (((∑ c : Fin 256, w0 (ix3 0 r c) * (v (ix2 c ⟨63 + j.val, by omega⟩) * (if j.val % 64 = 0 then 0 else 1)))
        + (∑ c : Fin 256, w1 (ix3 0 r c) * v (ix2 c ⟨64 + j.val, by omega⟩))
        + (∑ c : Fin 256, w2 (ix3 0 r c) * (v (ix2 c ⟨65 + j.val, by omega⟩) * (if j.val % 64 = 63 then 0 else 1)))
        + (∑ c : Fin 256, w3 (ix3 0 r c) * (v (ix2 c ⟨127 + j.val, by omega⟩) * (if j.val % 64 = 0 then 0 else 1)))
        + (∑ c : Fin 256, w4 (ix3 0 r c) * v (ix2 c ⟨128 + j.val, by omega⟩))
        + (∑ c : Fin 256, w5 (ix3 0 r c) * (v (ix2 c ⟨129 + j.val, by omega⟩) * (if j.val % 64 = 63 then 0 else 1)))
        + (∑ c : Fin 256, w6 (ix3 0 r c) * (v (ix2 c ⟨191 + j.val, by omega⟩) * (if j.val % 64 = 0 then 0 else 1)))
        + (∑ c : Fin 256, w7 (ix3 0 r c) * v (ix2 c ⟨192 + j.val, by omega⟩))
        + (∑ c : Fin 256, w8 (ix3 0 r c) * (v (ix2 c ⟨193 + j.val, by omega⟩) * (if j.val % 64 = 63 then 0 else 1))))
        * s (ix2 r 0) + b (ix2 r 0)) := by
  unfold k0_pay18 k0_pay16 k0_pay17
  simp only [addf_apply, mulf_apply, truncf_apply, logisticAt, taps4, tap, lanes, mask, KMask.left, KMask.right,
    cut 128 (by norm_num), cut 129 (by norm_num), cut 191 (by norm_num), cut 192 (by norm_num), cut 193 (by norm_num), silu]

/-- The same over the columns of the flat array: at step `i` the loaded columns start at column `1024 i`, and the nine
    taps are the window's. -/
theorem layer_eq (x : (⟨2, ![256, 4096]⟩ : Shape).Idx → EReal) (i : Fin 4) (v : Vec Ideal S256x1280 .bf16)
    (hv : ∀ (c : Fin 256) (t : Fin 1280), v (ix2 c t) = col x c (1024 * i.val + t.val))
    (W : Fin 9 → Fin 256 → EReal) (w0 w1 w2 w3 w4 w5 w6 w7 w8 : Vec Ideal S1x512x256 .bf16) (s b : Vec Ideal S512x1 .f32)
    (r : Fin 512) (j : Fin 1024)
    (h0 : ∀ c, w0 (ix3 0 r c) = W 0 c) (h1 : ∀ c, w1 (ix3 0 r c) = W 1 c) (h2 : ∀ c, w2 (ix3 0 r c) = W 2 c)
    (h3 : ∀ c, w3 (ix3 0 r c) = W 3 c) (h4 : ∀ c, w4 (ix3 0 r c) = W 4 c) (h5 : ∀ c, w5 (ix3 0 r c) = W 5 c)
    (h6 : ∀ c, w6 (ix3 0 r c) = W 6 c) (h7 : ∀ c, w7 (ix3 0 r c) = W 7 c) (h8 : ∀ c, w8 (ix3 0 r c) = W 8 c) :
    k0_pay18 v k0_pay11 (k0_pay14 64#32 k0_pay12 k0_pay13) (k0_pay15 v k0_pay11 64#32 k0_pay12 k0_pay13 w0 w1 w2 w3)
        (k0_pay16 v) (k0_pay17 w4) (constant S512x1024 .f32 0x00000000#32) w5 w6 w7 w8 s b (ix2 r j)
      = silu ((∑ k : Fin 9, ∑ c : Fin 256, W k c * pix (img x) k c ⟨1024 * i.val + j.val, by omega⟩)
          * s (ix2 r 0) + b (ix2 r 0)) := by
  have hm0 : (j.val % 64 = 0) = ((⟨1024 * i.val + j.val, by omega⟩ : Fin 4096).val % 64 = 0) := by
    simp only [eq_iff_iff]; omega
  have hm2 : (j.val % 64 = 63) = ((⟨1024 * i.val + j.val, by omega⟩ : Fin 4096).val % 64 = 63) := by
    simp only [eq_iff_iff]; omega
  rw [layer]
  simp only [h0, h1, h2, h3, h4, h5, h6, h7, h8, hv, hm0, hm2]
  simp only [Fin.sum_univ_castSucc (n := 8), Fin.sum_univ_eight]
  have L (k : Fin 9) (hk : k.val % 3 = 0) (c : Fin 256) (d : ℕ) (hd : d = 63 + 64 * (k.val / 3) + k.val % 3) :=
    pix_left x k c ⟨1024 * i.val + j.val, by omega⟩ (1024 * i.val + (d + j.val)) (by simp only []; omega) hk
  have M (k : Fin 9) (hk : k.val % 3 = 1) (c : Fin 256) (d : ℕ) (hd : d = 63 + 64 * (k.val / 3) + k.val % 3) :=
    pix_middle x k c ⟨1024 * i.val + j.val, by omega⟩ (1024 * i.val + (d + j.val)) (by simp only []; omega) hk
  have R (k : Fin 9) (hk : k.val % 3 = 2) (c : Fin 256) (d : ℕ) (hd : d = 63 + 64 * (k.val / 3) + k.val % 3) :=
    pix_right x k c ⟨1024 * i.val + j.val, by omega⟩ (1024 * i.val + (d + j.val)) (by simp only []; omega) hk
  simp only [L 0 rfl _ 63 rfl, M 1 rfl _ 64 rfl, R 2 rfl _ 65 rfl, L 3 rfl _ 127 rfl, M 4 rfl _ 128 rfl, R 5 rfl _ 129 rfl,
    L 6 rfl _ 191 rfl, M 7 rfl _ 192 rfl, R 8 rfl _ 193 rfl]
  rfl

end Cert.Head.KHidden

end
-- ==== Proof.KBody.lean ====
/- One step of the kernel: what it leaves in the two result blocks and in the three buffers it keeps between steps, as
   functions of the blocks it is given and of what it kept. -/
module

public import proofs.«01_k».proof.Proof.KKept
public import proofs.«01_k».proof.Proof.KHidden
public import proofs.«01_k».proof.Proof.Gen.KernelIdeal.Frame
public import Idealize.ShloMosaic.Lib.Pipeline.Value
public import Idealize.ShloMosaic.Lib.Tactic

@[expose] public section

noncomputable section

namespace Cert.Head.KBody

open Cert.KernelIdeal Cert.KernelIdeal.Gen Idealize.ShloMosaic Idealize.ShloMosaic.ValueIdx

/-- The columns of the padded image that step `i` loads. -/
def loaded (i : grid0.Coords) (p : Vec Ideal S256x4352 .bf16) : Vec Ideal S256x1280 .bf16 :=
  View.ld p (Rect.unit (s := S256x4352) (k0_off1 i) S256x1280.size (k0_off1_inb i))

/-- Tap 0's weights, and so on to tap 8's: the slices of the weights a step loads. -/
def taps (w : Vec Ideal S9x512x256 .bf16) (k : ℕ) (inb : ∀ a, (![k, 0, 0] : Fin 3 → ℕ) a + S1x512x256.size a ≤ S9x512x256.size a) :
    Vec Ideal S1x512x256 .bf16 :=
  View.ld w (Rect.unit (s := S9x512x256) ![k, 0, 0] S1x512x256.size inb)

/-- The hidden layer of a step, of both branches, from the loaded columns, the weights, the scales and the shifts. -/
def layer (v : Vec Ideal S256x1280 .bf16) (w : Vec Ideal S9x512x256 .bf16) (s b : Vec Ideal S512x1 .f32) :
    FVec Ideal S512x1024 .bf16 :=
  k0_pay18 v k0_pay11 (k0_pay14 64#32 k0_pay12 k0_pay13)
    (k0_pay15 v k0_pay11 64#32 k0_pay12 k0_pay13 (taps w 0 inb_S9x512x256_S1x512x256_0_0_0)
      (taps w 1 inb_S9x512x256_S1x512x256_1_0_0) (taps w 2 inb_S9x512x256_S1x512x256_2_0_0)
      (taps w 3 inb_S9x512x256_S1x512x256_3_0_0))
    (k0_pay16 v) (k0_pay17 (taps w 4 inb_S9x512x256_S1x512x256_4_0_0)) (constant S512x1024 .f32 0x00000000#32)
    (taps w 5 inb_S9x512x256_S1x512x256_5_0_0) (taps w 6 inb_S9x512x256_S1x512x256_6_0_0)
    (taps w 7 inb_S9x512x256_S1x512x256_7_0_0) (taps w 8 inb_S9x512x256_S1x512x256_8_0_0) s b

/-- What a step leaves: its two result blocks, and the three kept buffers as they are. -/
def left (i : grid0.Coords) (w : Vec Ideal S9x512x256 .bf16) (u : Vec Ideal S80x256 .f32) (d : Vec Ideal S1x80 .f32)
    (u' : Vec Ideal S68x256 .f32) (d' : Vec Ideal S1x68 .f32) (p : Vec Ideal S256x4352 .bf16) (s b : Vec Ideal S512x1 .f32) :
    Vec Ideal S80x1024 .bf16 × Vec Ideal S68x1024 .bf16 × Vec Ideal S256x4352 .bf16 × Vec Ideal S512x1 .f32 × Vec Ideal S512x1 .f32 :=
  (k0_pay1 (layer (loaded i p) w s b) u d, k0_pay2 (layer (loaded i p) w s b) u' d', p, s, b)

variable (m : (ℓ : Loc nD τ sig) → Buf (Elt Ideal) ℓ)

theorem origin : (![0, 0] : Fin 2 → ℕ) = fun _ => 0 := funext fun a => by fin_cases a <;> rfl

/-- The first step fills the three kept buffers, then computes from them. -/
theorem first (c : Dev nD) (t : Fin cfg0.N) (h : t.val % 4 = 0) :
    outsAt0 m c t.val t.isLt
      = left (grid0.coords t) (iblk m c 1 t) (iblk m c 6 t) (iblk m c 7 t) (iblk m c 8 t) (iblk m c 9 t)
          (View.canon (KKept.padded (iblk m c 0 t)))
          (View.canon (KKept.stacked (k0_pay7 (F := Ideal) (iblk m c 4 t)) (k0_pay6 (F := Ideal) (iblk m c 2 t))))
          (View.canon (KKept.stacked (k0_pay10 (F := Ideal) (iblk m c 5 t)) (k0_pay9 (k0_pay8 (F := Ideal) (iblk m c 3 t))))) := by
  rw [outsAt0_A m c t h]
  unfold left layer loaded taps k0_off1 KKept.padded KKept.stacked
  unfold out0_A_10 out0_A_11 sout0_A_0 sout0_A_1 sout0_A_2
  simp only [View.read_writes_junk_eq_canon]
  unfold kernelRun0_A
  dsimp only
  sl_unfold_words
  rw [View.canon_unit_zero (S := S80x1024) origin, View.canon_unit_zero (S := S68x1024) origin]
  simp only [View.readAt_writes_junk_eq_canon, View.readCov_eq_canon', View.readAt_eq_ld, Memref.IsWhole.read_unread,
    View.ld_unit_zero (S := S256x4096) origin, View.ld_unit_zero (S := S1x256) origin,
    View.ld_unit_zero (S := S80x256) origin, View.ld_unit_zero (S := S68x256) origin,
    View.ld_unit_zero (S := S1x80) origin, View.ld_unit_zero (S := S1x68) origin]
  have whole (L : List (View.Piece (Elt Ideal) S512x1 .f32)) : (fun j => View.canon L
      ((Rect.unit (s := S512x1) ![0, 0] S512x1.size inb_S512x1_S512x1_0_0).toLoadRect.idx j)) = View.canon L :=
    View.ld_unit_zero (S := S512x1) origin _ _
  simp only [whole]

/-- A later step computes from what the step before kept. -/
theorem later (c : Dev nD) (t : Fin cfg0.N) (h : ¬t.val % 4 = 0) (h' : t.val - 1 < cfg0.N) :
    outsAt0 m c t.val t.isLt
      = left (grid0.coords t) (iblk m c 1 t) (iblk m c 6 t) (iblk m c 7 t) (iblk m c 8 t) (iblk m c 9 t)
          (outsAt0 m c (t.val - 1) h').2.2.1 (outsAt0 m c (t.val - 1) h').2.2.2.1 (outsAt0 m c (t.val - 1) h').2.2.2.2 := by
  rw [outsAt0_B m c t h]
  generalize outsAt0 m c (t.val - 1) _ = kept
  unfold left layer loaded taps k0_off1
  unfold out0_B_10 out0_B_11 sout0_B_0 sout0_B_1 sout0_B_2
  simp only [View.read_writes_junk_eq_canon]
  unfold kernelRun0_B
  dsimp only
  sl_unfold_words
  rw [View.canon_unit_zero (S := S80x1024) origin, View.canon_unit_zero (S := S68x1024) origin]
  have r0 (h : (Memref.whole cc0_scratch0).IsWhole) (X : Vec Ideal S256x4352 .bf16) :
      View.read (Elt Ideal) (View.whole cc0_scratch0) (h.unread X) = X := h.read_unread X
  have r1 (h : (Memref.whole cc0_scratch1).IsWhole) (X : Vec Ideal S512x1 .f32) :
      View.read (Elt Ideal) (View.whole cc0_scratch1) (h.unread X) = X := h.read_unread X
  have r2 (h : (Memref.whole cc0_scratch2).IsWhole) (X : Vec Ideal S512x1 .f32) :
      View.read (Elt Ideal) (View.whole cc0_scratch2) (h.unread X) = X := h.read_unread X
  simp only [View.readAt_eq_ld, Memref.IsWhole.read_unread, r0, r1, r2,
    View.ld_unit_zero (S := S512x1) origin,
    View.ld_unit_zero (S := S80x256) origin, View.ld_unit_zero (S := S68x256) origin,
    View.ld_unit_zero (S := S1x80) origin, View.ld_unit_zero (S := S1x68) origin]

end Cert.Head.KBody

end
-- ==== Proof.KArray.lean ====
/- What the kernel's two result arrays hold when its grid has run: each branch of the head, at every position. -/
module

public import proofs.«01_k».proof.Proof.KArgs
public import proofs.«01_k».proof.Proof.KBody
public import proofs.«01_k».proof.Proof.KOut
public import Idealize.ShloMosaic.Lib.Pipeline.Value
public import Idealize.ShloMosaic.Lib.Tactic

@[expose] public section

noncomputable section

namespace Cert.Head.KArray

open Cert.KernelIdeal Cert.KernelIdeal.Gen Idealize.ShloMosaic Idealize.ShloMosaic.TcCoe Idealize.ShloMosaic.ValueIdx

variable (m : (ℓ : Loc nD τ sig) → Buf (Elt Ideal) ℓ) (c : Dev nD)

/-- The padded image the first step keeps. -/
def kept0 : Vec Ideal S256x4352 .bf16 := View.canon (KKept.padded (V m c main_v5 : Vec Ideal S256x4096 .bf16))

/-- The column of scales it keeps. -/
def kept1 : Vec Ideal S512x1 .f32 :=
  View.canon (KKept.stacked (k0_pay7 (F := Ideal) (V m c main_v8)) (k0_pay6 (F := Ideal) (V m c main_v6)))

/-- The column of shifts it keeps. -/
def kept2 : Vec Ideal S512x1 .f32 :=
  View.canon (KKept.stacked (k0_pay10 (F := Ideal) (V m c main_v9)) (k0_pay9 (k0_pay8 (F := Ideal) (V m c main_v7))))

/-- What step `t` leaves, from the host's arrays and what the first step keeps. -/
def stepped (t : Fin cfg0.N) :=
  KBody.left (grid0.coords t) (V m c main_v3) (V m c main_v10) (V m c main_v11) (V m c main_v12) (V m c main_v13)
    (kept0 m c) (kept1 m c) (kept2 m c)

/-- A step keeps what it has kept. -/
theorem left_kept (i : grid0.Coords) (w : Vec Ideal S9x512x256 .bf16) (u : Vec Ideal S80x256 .f32) (d : Vec Ideal S1x80 .f32)
    (u' : Vec Ideal S68x256 .f32) (d' : Vec Ideal S1x68 .f32) (p : Vec Ideal S256x4352 .bf16) (s b : Vec Ideal S512x1 .f32) :
    (KBody.left i w u d u' d' p s b).2.2.1 = p ∧ (KBody.left i w u d u' d' p s b).2.2.2.1 = s
      ∧ (KBody.left i w u d u' d' p s b).2.2.2.2 = b :=
  ⟨rfl, rfl, rfl⟩

/-- What a step that leaves that has kept. -/
theorem stepped_kept (t : Fin cfg0.N) :
    (stepped m c t).2.2.1 = kept0 m c ∧ (stepped m c t).2.2.2.1 = kept1 m c ∧ (stepped m c t).2.2.2.2 = kept2 m c := by
  unfold stepped
  exact left_kept _ _ _ _ _ _ _ _ _

/-- A step after one that leaves that leaves that: what is kept does not change. -/
theorem follow (t : Fin cfg0.N) (h : ¬t.val % 4 = 0) (hn : t.val - 1 < cfg0.N)
    (ih : outsAt0 m c (t.val - 1) hn = stepped m c ⟨t.val - 1, hn⟩) : outsAt0 m c t.val t.isLt = stepped m c t := by
  obtain ⟨-, e1, -, -, -, -, e6, e7, e8, e9⟩ := KArgs.blocks m c t
  obtain ⟨k0, k1, k2⟩ := stepped_kept m c ⟨t.val - 1, hn⟩
  refine (KBody.later m c t h hn).trans ?_
  rw [ih, k0, k1, k2, e1, e6, e7, e8, e9]
  unfold stepped
  with_reducible rfl

/-- Every step leaves that. -/
theorem step (n : ℕ) (h : n < cfg0.N) : outsAt0 m c n h = stepped m c ⟨n, h⟩ := by
  have hN : cfg0.N = 4 := N_0
  induction n with
  | zero =>
    obtain ⟨e0, e1, e2, e3, e4, e5, e6, e7, e8, e9⟩ := KArgs.blocks m c ⟨0, h⟩
    refine (KBody.first m c ⟨0, h⟩ rfl).trans ?_
    rw [e0, e1, e2, e3, e4, e5, e6, e7, e8, e9]
    rfl
  | succ n ih => exact follow m c ⟨n + 1, h⟩ (by simp only []; omega) (by simp only []; omega) (ih (by omega))

/-- A step's one coordinate is its number. -/
theorem coord (t : Fin cfg0.N) : (grid0.coords t 0).val = t.val := by
  have hN : cfg0.N = 4 := N_0
  have h : (grid0.coords t 0).val = t.val / 1 % 4 := Pipeline.Grid.coords_val t 0 (by decide) rfl
  have := t.isLt
  omega

/-- The columns a step loads. -/
theorem loaded_at (t : Fin cfg0.N) (p : Vec Ideal S256x4352 .bf16) (ch : Fin 256) (j : Fin 1280)
    (h : 1024 * t.val + j.val < 4352) :
    KBody.loaded (grid0.coords t) p (ix2 ch j) = p (ix2 ch ⟨1024 * t.val + j.val, h⟩) := by
  unfold KBody.loaded View.ld
  refine congrArg p (funext fun a => Fin.ext ?_)
  have h1 := coord t
  match a with
  | ⟨0, _⟩ =>
    show k0_off1 (grid0.coords t) 0 + 1 * ch.val = ch.val
    rw [k0_off1_eq]
    show 0 + 1 * ch.val = ch.val
    omega
  | ⟨1, _⟩ =>
    show k0_off1 (grid0.coords t) 1 + 1 * j.val = 1024 * t.val + j.val
    rw [k0_off1_eq]
    show 1024 * (grid0.coords t 0).val + 1 * j.val = 1024 * t.val + j.val
    omega

/-- The weights of one tap. -/
theorem taps_at (w : Vec Ideal S9x512x256 .bf16) (k : Fin 9)
    (inb : ∀ a, (![k.val, 0, 0] : Fin 3 → ℕ) a + S1x512x256.size a ≤ S9x512x256.size a) (r : Fin 512) (ch : Fin 256) :
    KBody.taps w k.val inb (ix3 0 r ch) = w (ix3 k r ch) := by
  unfold KBody.taps View.ld
  refine congrArg w (funext fun a => Fin.ext ?_)
  match a with
  | ⟨0, _⟩ => show k.val + 1 * 0 = k.val; omega
  | ⟨1, _⟩ => show 0 + 1 * r.val = r.val; omega
  | ⟨2, _⟩ => show 0 + 1 * ch.val = ch.val; omega

/-- The hidden layer of step `t` at a row whose filter is `W`. -/
theorem layer_at (t : Fin cfg0.N) (ht : t.val < 4) (W : Fin 9 → Fin 256 → EReal) (r : Fin 512) (j : Fin 1024)
    (hW : ∀ k ch, (V m c main_v3 : Vec Ideal S9x512x256 .bf16) (ix3 k r ch) = W k ch) :
    KBody.layer (KBody.loaded (grid0.coords t) (kept0 m c)) (V m c main_v3) (kept1 m c) (kept2 m c) (ix2 r j)
      = silu ((∑ k : Fin 9, ∑ ch : Fin 256,
          W k ch * pix (image (m ((c : Thread nD τ).loc main_arg0) : Vec Ideal S1x1x256x64x64 .f32)) k ch
            ⟨1024 * t.val + j.val, by omega⟩) * kept1 m c (ix2 r 0) + kept2 m c (ix2 r 0)) := by
  rw [← KArgs.img_eq m c]
  unfold KBody.layer
  exact KHidden.layer_eq (V m c main_v5 : Vec Ideal S256x4096 .bf16) ⟨t.val, ht⟩ _
    (fun ch s => (loaded_at t _ ch s (by omega)).trans (KKept.padded_apply _ ch _)) W _ _ _ _ _ _ _ _ _ _ _ r j
    (fun ch => (taps_at _ 0 _ r ch).trans (hW 0 ch)) (fun ch => (taps_at _ 1 _ r ch).trans (hW 1 ch))
    (fun ch => (taps_at _ 2 _ r ch).trans (hW 2 ch)) (fun ch => (taps_at _ 3 _ r ch).trans (hW 3 ch))
    (fun ch => (taps_at _ 4 _ r ch).trans (hW 4 ch)) (fun ch => (taps_at _ 5 _ r ch).trans (hW 5 ch))
    (fun ch => (taps_at _ 6 _ r ch).trans (hW 6 ch)) (fun ch => (taps_at _ 7 _ r ch).trans (hW 7 ch))
    (fun ch => (taps_at _ 8 _ r ch).trans (hW 8 ch))

/-- The class scores, at every class and position. -/
def scores (q : Fin 80) (n : Fin 4096) : EReal :=
  branch (m ((c : Thread nD τ).loc main_arg0) : Vec Ideal S1x1x256x64x64 .f32)
    (m ((c : Thread nD τ).loc main_arg3) : Vec Ideal S256x256x3x3 .f32)
    (m ((c : Thread nD τ).loc main_arg4) : Vec Ideal S256 .f32) (m ((c : Thread nD τ).loc main_arg5) : Vec Ideal S256 .f32)
    (m ((c : Thread nD τ).loc main_arg6) : Vec Ideal S80x256x1x1 .f32) (m ((c : Thread nD τ).loc main_arg7) : Vec Ideal S80 .f32) q n

/-- The box distances, at every bin and position. -/
def boxes (q : Fin 68) (n : Fin 4096) : EReal :=
  branch (m ((c : Thread nD τ).loc main_arg0) : Vec Ideal S1x1x256x64x64 .f32)
    (m ((c : Thread nD τ).loc main_arg8) : Vec Ideal S256x256x3x3 .f32)
    (m ((c : Thread nD τ).loc main_arg9) : Vec Ideal S256 .f32) (m ((c : Thread nD τ).loc main_arg10) : Vec Ideal S256 .f32)
    (m ((c : Thread nD τ).loc main_arg11) : Vec Ideal S68x256x1x1 .f32) (m ((c : Thread nD τ).loc main_arg12) : Vec Ideal S68 .f32) q n

/-- Step `t`'s first result block: the class scores of its 1024 positions. -/
theorem scores_at (t : Fin cfg0.N) (ht : t.val < 4) (q : Fin 80) (j : Fin 1024) :
    (outsAt0 m c t.val t.isLt).1 (ix2 q j) = scores m c q ⟨1024 * t.val + j.val, by omega⟩ := by
  rw [step m c t.val t.isLt]
  refine (KOut.scores _ _ _ q j).trans ?_
  obtain ⟨-, -, e6, e7, -, -, e10, e11, -, -⟩ := KArgs.entry m c
  unfold scores branch head hidden conv
  refine congrArg₂ (· + ·) (Finset.sum_congr rfl fun o _ => congrArg₂ (· * ·) ?_ ?_) ?_
  · rw [e10]; exact KArgs.matrix _ _ q o
  · refine (layer_at m c t ht _ _ j fun k ch => KArgs.filters_cls m c k o ch).trans ?_
    refine congrArg silu (congrArg₂ (· + ·) (congrArg (_ * ·) ?_) ?_)
    · refine (KKept.stacked_upper _ _ o).trans ((KOut.scale_cls _ o).trans (congrArg (· * rsq) ?_))
      rw [e6]; exact KArgs.row _ _ o
    · refine (KKept.stacked_upper _ _ o).trans ((KOut.shift_cls _ o).trans ?_)
      rw [e7]; exact KArgs.row _ _ o
  · rw [e11]; exact KArgs.row _ _ q

/-- Step `t`'s second result block: the box distances of its 1024 positions. -/
theorem boxes_at (t : Fin cfg0.N) (ht : t.val < 4) (q : Fin 68) (j : Fin 1024) :
    (outsAt0 m c t.val t.isLt).2.1 (ix2 q j) = boxes m c q ⟨1024 * t.val + j.val, by omega⟩ := by
  rw [step m c t.val t.isLt]
  refine (KOut.boxes _ _ _ q j).trans ?_
  obtain ⟨-, -, -, -, e8, e9, -, -, e12, e13⟩ := KArgs.entry m c
  unfold boxes branch head hidden conv
  refine congrArg₂ (· + ·) (Finset.sum_congr rfl fun o _ => congrArg₂ (· * ·) ?_ ?_) ?_
  · rw [e12]; exact KArgs.matrix _ _ q o
  · refine (layer_at m c t ht _ _ j fun k ch => KArgs.filters_reg m c k o ch).trans ?_
    refine congrArg silu (congrArg₂ (· + ·) (congrArg (_ * ·) ?_) ?_)
    · refine (KKept.stacked_lower _ _ o).trans ((KOut.scale_reg _ o).trans (congrArg (· * rsq) ?_))
      rw [e8]; exact KArgs.row _ _ o
    · refine (KKept.stacked_lower _ _ o).trans ((KOut.shift_reg _ o).trans ?_)
      rw [e9]; exact KArgs.row _ _ o
  · rw [e13]; exact KArgs.row _ _ q

/-- The first result array. -/
def array0 : Vec Ideal S80x4096 .bf16 := fun i => scores m c (i 0) (i 1)

/-- The second result array. -/
def array1 : Vec Ideal S68x4096 .bf16 := fun i => boxes m c (i 0) (i 1)

/-- The blocks written are block `(0, t)` of the arrays. -/
theorem index10 (t : Fin cfg0.N) : win0_10.index t 0 = 0 ∧ win0_10.index t 1 = t.val
    ∧ win0_11.index t 0 = 0 ∧ win0_11.index t 1 = t.val := by
  rcases fin_N0 t with rfl | rfl | rfl | rfl <;> decide +kernel

/-- The step's write-back to the first array writes the array's own block. -/
theorem flushed0 (t : Fin cfg0.N) (_ : (cfg0.win 10).flush t = true) :
    (dats m 0 c).flushed 10 t = ((cfg0.win 10).blk t).view.read (Elt Ideal) (array0 m c) := by
  have hN : cfg0.N = 4 := N_0
  have ht : t.val < 4 := by have := t.isLt; omega
  show (cfg0.win 10).cut (grid0.coords t) ((dats m 0 c).after 10 t) = _
  rw [after0_10]
  obtain ⟨h0, h1, -, -⟩ := index10 t
  funext i
  obtain ⟨q, j, rfl⟩ : ∃ (q : Fin 80) (j : Fin 1024), i = ix2 q j := ⟨i 0, i 1, eq_ix2 (n0 := 80) (n1 := 1024) i⟩
  refine (scores_at m c t ht q j).trans ?_
  rw [View.read_apply]
  refine congrArg₂ (scores m c) (Fin.ext ?_) (Fin.ext ?_)
  · show q.val = win0_10.index t 0 * 80 + 1 * q.val
    rw [h0]; omega
  · show 1024 * t.val + j.val = win0_10.index t 1 * 1024 + 1 * j.val
    rw [h1]; omega

/-- The same of the second array. -/
theorem flushed1 (t : Fin cfg0.N) (_ : (cfg0.win 11).flush t = true) :
    (dats m 0 c).flushed 11 t = ((cfg0.win 11).blk t).view.read (Elt Ideal) (array1 m c) := by
  have hN : cfg0.N = 4 := N_0
  have ht : t.val < 4 := by have := t.isLt; omega
  show (cfg0.win 11).cut (grid0.coords t) ((dats m 0 c).after 11 t) = _
  rw [after0_11]
  obtain ⟨-, -, h0, h1⟩ := index10 t
  funext i
  obtain ⟨q, j, rfl⟩ : ∃ (q : Fin 68) (j : Fin 1024), i = ix2 q j := ⟨i 0, i 1, eq_ix2 (n0 := 68) (n1 := 1024) i⟩
  refine (boxes_at m c t ht q j).trans ?_
  rw [View.read_apply]
  refine congrArg₂ (boxes m c) (Fin.ext ?_) (Fin.ext ?_)
  · show q.val = win0_11.index t 0 * 68 + 1 * q.val
    rw [h0]; omega
  · show 1024 * t.val + j.val = win0_11.index t 1 * 1024 + 1 * j.val
    rw [h1]; omega

/-- So the first array ends holding the class scores: the four blocks cover it. -/
theorem final0 : (dats m 0 c).arrAt 10 cfg0.N = array0 m c :=
  (dats m 0 c).arrAt_eq_of_cover 10 (array0 m c) (flushed0 m c) fun i => by
    have hN : cfg0.N = 4 := N_0
    have b0 : (i 0 : ℕ) < 80 := (i 0).isLt
    have b1 : (i 1 : ℕ) < 4096 := (i 1).isLt
    refine ⟨⟨(i 1 : ℕ) / 1024, by omega⟩, flush0_10 _, ?_⟩
    generalize ht : (⟨(i 1 : ℕ) / 1024, by omega⟩ : Fin cfg0.N) = t
    have hv : t.val = (i 1 : ℕ) / 1024 := by rw [← ht]
    obtain ⟨h0, h1, -, -⟩ := index10 t
    show i ∈ ((View.whole main_v14_0).slice (win0_10.rect t)).set
    rw [View.set_slice_whole, Rect.mem_set_unit]
    intro a
    match a with
    | ⟨0, _⟩ =>
      show win0_10.index t 0 * 80 ≤ (i 0 : ℕ) ∧ (i 0 : ℕ) < win0_10.index t 0 * 80 + 80
      rw [h0]; omega
    | ⟨1, _⟩ =>
      show win0_10.index t 1 * 1024 ≤ (i 1 : ℕ) ∧ (i 1 : ℕ) < win0_10.index t 1 * 1024 + 1024
      rw [h1]; omega

/-- And the second the box distances. -/
theorem final1 : (dats m 0 c).arrAt 11 cfg0.N = array1 m c :=
  (dats m 0 c).arrAt_eq_of_cover 11 (array1 m c) (flushed1 m c) fun i => by
    have hN : cfg0.N = 4 := N_0
    have b0 : (i 0 : ℕ) < 68 := (i 0).isLt
    have b1 : (i 1 : ℕ) < 4096 := (i 1).isLt
    refine ⟨⟨(i 1 : ℕ) / 1024, by omega⟩, flush0_11 _, ?_⟩
    generalize ht : (⟨(i 1 : ℕ) / 1024, by omega⟩ : Fin cfg0.N) = t
    have hv : t.val = (i 1 : ℕ) / 1024 := by rw [← ht]
    obtain ⟨-, -, h0, h1⟩ := index10 t
    show i ∈ ((View.whole main_v14_1).slice (win0_11.rect t)).set
    rw [View.set_slice_whole, Rect.mem_set_unit]
    intro a
    match a with
    | ⟨0, _⟩ =>
      show win0_11.index t 0 * 68 ≤ (i 0 : ℕ) ∧ (i 0 : ℕ) < win0_11.index t 0 * 68 + 68
      rw [h0]; omega
    | ⟨1, _⟩ =>
      show win0_11.index t 1 * 1024 ≤ (i 1 : ℕ) ∧ (i 1 : ℕ) < win0_11.index t 1 * 1024 + 1024
      rw [h1]; omega

end Cert.Head.KArray

end
-- ==== Proof.KRun.lean ====
/- The kernel's run, read: each result at an index, the arguments as they were. -/
module

public import proofs.«01_k».proof.Proof.KArray
public import Idealize.ShloMosaic.Lib.StableHlo.Run
public import Idealize.ShloMosaic.Lib.Claim

@[expose] public section

noncomputable section

namespace Cert.Head.KRun

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The class scores the kernel returns. -/
def result0 (c : Dev nD) : Buf (Elt Ideal) ((c : Thread nD τ).loc main_v16) :=
  (fun i => KArray.scores m c (i 1) ⟨64 * (i 2).val + (i 3).val, by
    have h2 : (i 2).val < 64 := (i 2).isLt
    have h3 : (i 3).val < 64 := (i 3).isLt
    omega⟩ : Vec Ideal S1x80x64x64 .f32)

/-- The box distances it returns. -/
def result1 (c : Dev nD) : Buf (Elt Ideal) ((c : Thread nD τ).loc main_v18) :=
  (fun i => KArray.boxes m c (i 1) ⟨64 * (i 2).val + (i 3).val, by
    have h2 : (i 2).val < 64 := (i 2).isLt
    have h3 : (i 3).val < 64 := (i 3).isLt
    omega⟩ : Vec Ideal S1x68x64x64 .f32)

/-- The two arrays the host's lines after the grid read. -/
theorem arrays (c : Dev nD) :
    (Pipeline.withArrays spec0 c (V0 m c) (fun w => (dats m 0 c).arrAt w cfg0.N) (Proc.devRef .tc main_v14_0) : Vec Ideal S80x4096 .bf16)
        = KArray.array0 m c
    ∧ (Pipeline.withArrays spec0 c (V0 m c) (fun w => (dats m 0 c).arrAt w cfg0.N) (Proc.devRef .tc main_v14_1) : Vec Ideal S68x4096 .bf16)
        = KArray.array1 m c := by
  have inj : Function.Injective (Pipeline.arrRef spec0) := by decide
  exact ⟨(Pipeline.withArrays_arr spec0 inj c (V0 m c) (fun w => (dats m 0 c).arrAt w cfg0.N) 10).trans (KArray.final0 m c),
    (Pipeline.withArrays_arr spec0 inj c (V0 m c) (fun w => (dats m 0 c).arrAt w cfg0.N) 11).trans (KArray.final1 m c)⟩

/-- The host's lines after the grid make the first result of the first array. -/
theorem tail0 (c : Dev nD) :
    Pipeline.afterTail₀ cfgs (dats m) 0 (V0 m) [hostOps1] c main_v16 = result0 m c := by
  have e : Pipeline.afterTail₀ cfgs (dats m) 0 (V0 m) [hostOps1] c main_v16
      = (shapeCast S1x80x64x64 (Pipeline.withArrays spec0 c (V0 m c) (fun w => (dats m 0 c).arrAt w cfg0.N)
          (Proc.devRef .tc main_v14_0) : Vec Ideal S80x4096 .bf16) shapeCasts_S80x4096_S1x80x64x64 : S1x80x64x64.Idx → EReal) := by
    unfold Pipeline.afterTail₀ hostOps1
    simp only [List.flatten_cons, List.flatten_nil, List.append_nil, List.cons_append, List.nil_append]
    after_results
    rfl
  rw [e, (arrays m c).1]
  funext i
  exact maps _ _ i _ rfl

/-- And the second of the second. -/
theorem tail1 (c : Dev nD) :
    Pipeline.afterTail₀ cfgs (dats m) 0 (V0 m) [hostOps1] c main_v18 = result1 m c := by
  have e : Pipeline.afterTail₀ cfgs (dats m) 0 (V0 m) [hostOps1] c main_v18
      = (shapeCast S1x68x64x64 (Pipeline.withArrays spec0 c (V0 m c) (fun w => (dats m 0 c).arrAt w cfg0.N)
          (Proc.devRef .tc main_v14_1) : Vec Ideal S68x4096 .bf16) shapeCasts_S68x4096_S1x68x64x64 : S1x68x64x64.Idx → EReal) := by
    unfold Pipeline.afterTail₀ hostOps1
    simp only [List.flatten_cons, List.flatten_nil, List.append_nil, List.cons_append, List.nil_append]
    after_results
    rfl
  rw [e, (arrays m c).2]
  funext i
  exact maps _ _ i _ rfl

/-- Every run of the kernel ends with the class scores and the box distances. -/
theorem run (ρ : Dev nD → PrngReg) :
    θ_run defs (onTc (τ := τ) (main (F := Ideal))) ⟨m, fun _ => 0, ρ⟩ fun r => ∀ c : Dev nD,
      r.2.mem ((c : Thread nD τ).loc main_v16) = result0 m c ∧ r.2.mem ((c : Thread nD τ).loc main_v18) = result1 m c :=
  (θ_run defs _ _).mono (fun _ h c =>
    ⟨((h c).2 main_v16 (Pipeline.mem_restRefs_of main_v16 (by decide) (by decide))).trans (tail0 m c),
     ((h c).2 main_v18 (Pipeline.mem_restRefs_of main_v18 (by decide) (by decide))).trans (tail1 m c)⟩)
    (run_main m ρ)

end Cert.Head.KRun

end
-- ==== Proof.RPatches.lean ====
/- The reference's columns of the padded image: row `256 k + c` of the reshaped stack of nine shifted images is channel `c`'s
   pixel under tap `k`, at every position; so the contraction over the 2304 rows is the 3x3 convolution. -/
module

public import proofs.«01_k».proof.Proof.Branch
public import proofs.«01_k».proof.Proof.Gen.ReferenceIdeal.Read
public import Idealize.ShloMosaic.Lib.KernelVsHost

@[expose] public section

noncomputable section

namespace Cert.Head.RPatches

open Cert.ReferenceIdeal Cert.ReferenceIdeal.Gen Cert.ReferenceIdeal.Read Idealize.ShloMosaic Idealize.ShloMosaic.ValueIdx
open scoped BigOperators

variable (x : Vec Ideal S1x1x256x64x64 .f32)

/-- The image without its two axes of size one. -/
theorem image_apply (c : Fin 256) (h w : Fin 64) :
    val_main_v0 (F := Ideal) x (ValueIdx.ix3 c h w : S256x64x64.Idx) = image x c h w := by
  unfold val_main_v0
  refine shapeCast_apply _ _ _ (ValueIdx.ix5 0 0 c h w : S1x1x256x64x64.Idx) ?_
  rw [Shape.rowMajor_val_five, Shape.rowMajor_val_three]
  show (((0 * 1 + 0) * 256 + c.val) * 64 + h.val) * 64 + w.val = (c.val * 64 + h.val) * 64 + w.val
  omega

/-- The padded image on the image. -/
theorem padded_inside (c : Fin 256) (a b : Fin 66) (h w : Fin 64) (ha : a.val = 1 + h.val) (hb : b.val = 1 + w.val) :
    val_main_v1 (F := Ideal) x (ValueIdx.ix3 c a b : S256x66x66.Idx) = image x c h w := by
  unfold val_main_v1
  refine (pad_apply_of_inside _ _ _ _ _ _ _ _ (ValueIdx.ix3 c h w : S256x64x64.Idx) fun d => ?_).trans (image_apply x c h w)
  match d with
  | ⟨0, _⟩ => show c.val = 0 + c.val * (0 + 1); omega
  | ⟨1, _⟩ => show a.val = 1 + h.val * (0 + 1); omega
  | ⟨2, _⟩ => show b.val = 1 + w.val * (0 + 1); omega

/-- The number the image is padded with is zero. -/
theorem padding (i : S_.Idx) : val_main_call0_v0 (F := Ideal) i = 0 := by
  show (((0#32 : BitVec 32).toInt : ℝ) : EReal) = 0
  simp

/-- The padded image on the ring. -/
theorem padded_outside (c : Fin 256) (a b : Fin 66) (h : ¬((1 ≤ a.val ∧ a.val ≤ 64) ∧ (1 ≤ b.val ∧ b.val ≤ 64))) :
    val_main_v1 (F := Ideal) x (ValueIdx.ix3 c a b : S256x66x66.Idx) = 0 := by
  unfold val_main_v1
  by_cases ha : 1 ≤ a.val ∧ a.val ≤ 64
  · refine (pad_apply_of_not_inside _ _ _ _ _ _ _ _ 2 ?_).trans (padding _)
    show ¬(1 ≤ b.val ∧ (b.val - 1) % (0 + 1) = 0 ∧ (b.val - 1) / (0 + 1) < 64)
    omega
  · refine (pad_apply_of_not_inside _ _ _ _ _ _ _ _ 1 ?_).trans (padding _)
    show ¬(1 ≤ a.val ∧ (a.val - 1) % (0 + 1) = 0 ∧ (a.val - 1) / (0 + 1) < 64)
    omega

/-- Tap `k`'s slice of the padded image lies in it. -/
theorem inside (k : Fin 9) : S256x66x66.Slices ![0, k.val / 3, k.val % 3] S256x64x64 := by
  revert k; decide

/-- The image shifted by tap `k`. -/
def shifted (y : S256x66x66.Idx → EReal) (k : Fin 9) : S1x256x64x64.Idx → EReal :=
  broadcastInDim S1x256x64x64 ![1, 2, 3] bcast_S256x64x64_S1x256x64x64_1_2_3
    (extractStridedSlice S256x64x64 ![0, k.val / 3, k.val % 3] y (inside k))

/-- It reads the padded image `k / 3` rows down and `k % 3` columns right. -/
theorem shifted_apply (y : S256x66x66.Idx → EReal) (k : Fin 9) (c : Fin 256) (h w : Fin 64) :
    shifted y k (ValueIdx.ix4 0 c h w : S1x256x64x64.Idx)
      = y (ValueIdx.ix3 c ⟨k.val / 3 + h.val, by omega⟩ ⟨k.val % 3 + w.val, by omega⟩ : S256x66x66.Idx) := by
  unfold shifted
  refine (broadcastInDim_apply _ _ _ _ (ValueIdx.ix3 c h w : S256x64x64.Idx) fun a => ?_).trans
    (extractStridedSlice_apply _ _ _ _ _ fun a => ?_)
  · match a with
    | ⟨0, _⟩ => rfl
    | ⟨1, _⟩ => rfl
    | ⟨2, _⟩ => rfl
  · match a with
    | ⟨0, _⟩ => show c.val = 0 + c.val; omega
    | ⟨1, _⟩ => rfl
    | ⟨2, _⟩ => rfl

/-- The stack of the nine shifted images. -/
theorem stack_apply (k : Fin 9) (c : Fin 256) (h w : Fin 64) :
    val_main_v20 (F := Ideal) x (ValueIdx.ix4 k c h w : S9x256x64x64.Idx)
      = shifted (val_main_v1 (F := Ideal) x) k (ValueIdx.ix4 0 c h w : S1x256x64x64.Idx) := by
  unfold val_main_v20
  exact concatenate_ofFn_unit_apply (t := S9x256x64x64) (s₁ := S1x256x64x64) 0 (N := 9)
    (fun n => shifted (val_main_v1 (F := Ideal) x) n) _ rfl rfl (ValueIdx.ix4 k c h w) k rfl (ValueIdx.ix4 0 c h w) fun b hb =>
      match b, hb with
      | ⟨0, _⟩, hb => absurd rfl hb
      | ⟨1, _⟩, _ => rfl
      | ⟨2, _⟩, _ => rfl
      | ⟨3, _⟩, _ => rfl

/-- Row `256 k + c` of the columns at position `n` is channel `c`'s pixel under tap `k`. -/
theorem columns_apply (k : Fin 9) (c : Fin 256) (n : Fin 4096) :
    val_main_v21 (F := Ideal) x (ValueIdx.ix2 ⟨256 * k.val + c.val, by omega⟩ n : S2304x4096.Idx) = pix (image x) k c n := by
  unfold val_main_v21
  refine (shapeCast_apply _ _ _ (ValueIdx.ix4 k c ⟨n.val / 64, by omega⟩ ⟨n.val % 64, by omega⟩ : S9x256x64x64.Idx) ?_).trans
    ((stack_apply x k c _ _).trans ((shifted_apply _ k c _ _).trans ?_))
  · rw [Shape.rowMajor_val_four, Shape.rowMajor_val_two]
    show ((k.val * 256 + c.val) * 64 + n.val / 64) * 64 + n.val % 64 = (256 * k.val + c.val) * 4096 + n.val
    omega
  · by_cases hi : (1 ≤ n.val / 64 + k.val / 3 ∧ n.val / 64 + k.val / 3 ≤ 64)
      ∧ (1 ≤ n.val % 64 + k.val % 3 ∧ n.val % 64 + k.val % 3 ≤ 64)
    · have ea : n.val / 64 + k.val / 3 - 1 < 64 := by omega
      have eb : n.val % 64 + k.val % 3 - 1 < 64 := by omega
      rw [pix_inside (image x) k c n ⟨_, ea⟩ ⟨_, eb⟩ (by simp only []; omega) (by simp only []; omega)]
      exact padded_inside x c _ _ ⟨_, ea⟩ ⟨_, eb⟩ (by simp only []; omega) (by simp only []; omega)
    · rw [pix_outside _ _ _ _ hi]
      exact padded_outside x c _ _ (by simp only []; omega)

/-- Column `256 k + c` of the flattened filters is tap `k` of channel `c`. -/
theorem filters_apply (w : Vec Ideal S256x256x3x3 .f32) (o : Fin 256) (k : Fin 9) (c : Fin 256) :
    val_main_v23 (F := Ideal) w (ValueIdx.ix2 o ⟨256 * k.val + c.val, by omega⟩ : S256x2304.Idx) = filters w o c k := by
  unfold val_main_v23 val_main_v22
  refine (shapeCast_apply _ _ _ (ValueIdx.ix4 o ⟨k.val / 3, by omega⟩ ⟨k.val % 3, by omega⟩ c : S256x3x3x256.Idx) ?_).trans
    (transpose_apply _ _ _ _ (ValueIdx.ix4 o c ⟨k.val / 3, by omega⟩ ⟨k.val % 3, by omega⟩ : S256x256x3x3.Idx) fun b => ?_)
  · rw [Shape.rowMajor_val_four, Shape.rowMajor_val_two]
    show ((o.val * 3 + k.val / 3) * 3 + k.val % 3) * 256 + c.val = o.val * 2304 + (256 * k.val + c.val)
    omega
  · match b with
    | ⟨0, _⟩ => rfl
    | ⟨1, _⟩ => rfl
    | ⟨2, _⟩ => rfl
    | ⟨3, _⟩ => rfl

/-- A sum over the 2304 rows, tap by tap. -/
theorem sum_rows (f : Fin 2304 → EReal) :
    ∑ j, f j = ∑ k : Fin 9, ∑ c : Fin 256, f ⟨256 * k.val + c.val, by omega⟩ := by
  refine (Equiv.sum_comp (finProdFinEquiv : Fin 9 × Fin 256 ≃ Fin (9 * 256)) f).symm.trans ?_
  rw [Fintype.sum_prod_type]
  refine Finset.sum_congr rfl fun k _ => Finset.sum_congr rfl fun c _ => congrArg f (Fin.ext ?_)
  show c.val + 256 * k.val = 256 * k.val + c.val
  omega

/-- The contraction is the 3x3 convolution. -/
theorem conv_apply (w : Vec Ideal S256x256x3x3 .f32) (o : Fin 256) (n : Fin 4096) :
    val_main_v24 (F := Ideal) x w (ValueIdx.ix2 o n : S256x4096.Idx) = conv (image x) (filters w) o n := by
  refine (val_main_v24_apply x w _).trans ((sum_rows _).trans ?_)
  unfold conv
  refine Finset.sum_congr rfl fun k _ => Finset.sum_congr rfl fun c _ => congrArg₂ (· * ·) ?_ ?_
  · refine Eq.trans (congrArg _ (funext fun a => ?_)) (filters_apply w o k c)
    match a with
    | ⟨0, _⟩ => rfl
    | ⟨1, _⟩ => rfl
  · refine Eq.trans (congrArg _ (funext fun a => ?_)) (columns_apply x k c n)
    match a with
    | ⟨0, _⟩ => rfl
    | ⟨1, _⟩ => rfl

end Cert.Head.RPatches

end
-- ==== Proof.RBranch.lean ====
/- The reference's two results at an index: each is its branch of the head. -/
module

public import proofs.«01_k».proof.Proof.RPatches

@[expose] public section

noncomputable section

namespace Cert.Head.RBranch

open Cert.ReferenceIdeal Cert.ReferenceIdeal.Gen Cert.ReferenceIdeal.Read Idealize.ShloMosaic Idealize.ShloMosaic.TcCoe Idealize.ShloMosaic.ValueIdx
open scoped BigOperators

/-- The variance plus epsilon, as the reference's literal spells it. -/
theorem variance : Ideal.ofBits .f32 0x3F800054#32 = (((2097173 / 2097152 : ℝ)) : EReal) := by
  simp [Ideal.ofBits, Ideal.ieee, -EReal.coe_mul]
  norm_num

/-- The literal one. -/
theorem one : Ideal.ofBits .f32 0x3F800000#32 = 1 := by
  simp [Ideal.ofBits, Ideal.ieee, -EReal.coe_mul]
  norm_num

/-- Dividing by the root of the variance is multiplying by its inverse root. -/
theorem div_root (g : EReal) : Ideal.div g (Ideal.sqrt (Ideal.ofBits .f32 0x3F800054#32)) = g * rsq := by
  have h : Real.sqrt (2097173 / 2097152) ≠ 0 := (Real.sqrt_pos.mpr (by norm_num)).ne'
  rw [variance, Ideal.sqrt_coe, if_neg (by norm_num)]
  unfold Ideal.div rsq
  rw [if_neg (by exact_mod_cast h)]
  rfl

/-- The batch norm's scale at a channel. -/
theorem scale_apply (g : Vec Ideal S256 .f32) (o : Fin 256) (n : Fin 4096) :
    val_main_v30 (F := Ideal) g (ValueIdx.ix2 o n : S256x4096.Idx) = g (ValueIdx.ix1 o) * rsq := by
  rw [val_main_v30_apply, val_main_v29_apply, val_main_v28_apply, val_main_v27_apply]
  refine Eq.trans ?_ (div_root _)
  refine congrArg (fun i => Ideal.div (g i) (Ideal.sqrt (Ideal.ofBits .f32 0x3F800054#32))) (funext fun a => ?_)
  match a with
  | ⟨0, _⟩ => rfl

/-- The batch norm's shift at a channel. -/
theorem shift_apply (b : Vec Ideal S256 .f32) (o : Fin 256) (n : Fin 4096) :
    val_main_v33 (F := Ideal) b (ValueIdx.ix2 o n : S256x4096.Idx) = b (ValueIdx.ix1 o) := by
  rw [val_main_v33_apply, val_main_v32_apply]
  refine congrArg b (funext fun a => ?_)
  match a with
  | ⟨0, _⟩ => rfl

variable (x : Vec Ideal S1x1x256x64x64 .f32) (w : Vec Ideal S256x256x3x3 .f32) (g b : Vec Ideal S256 .f32)

/-- The hidden layer at an index. -/
theorem hidden_apply (o : Fin 256) (n : Fin 4096) :
    val_main_v41 (F := Ideal) x w g b (ValueIdx.ix2 o n : S256x4096.Idx)
      = hidden (image x) (filters w) (fun o => g (ValueIdx.ix1 o)) (fun o => b (ValueIdx.ix1 o)) o n := by
  have e : val_main_v34 (F := Ideal) x w g b (ValueIdx.ix2 o n : S256x4096.Idx)
      = conv (image x) (filters w) o n * (g (ValueIdx.ix1 o) * rsq) + b (ValueIdx.ix1 o) := by
    rw [val_main_v34_apply, val_main_v31_apply, RPatches.conv_apply, scale_apply, shift_apply]
    rfl
  unfold hidden silu Ideal.logistic
  rw [← e, ← one]
  rw [val_main_v41_apply, val_main_v40_apply, val_main_v39_apply, val_main_v38_apply, val_main_v37_apply, val_main_v36_apply,
    val_main_v35_apply]
  rfl

/-- The first branch before its last reshape. -/
theorem scores_apply (u : Vec Ideal S80x256x1x1 .f32) (d : Vec Ideal S80 .f32) (q : Fin 80) (n : Fin 4096) :
    val_main_v46 (F := Ideal) x w g b u d (ValueIdx.ix2 q n : S80x4096.Idx) = branch x w g b u d q n := by
  rw [val_main_v46_apply, val_main_v43_apply, val_main_v45_apply, val_main_v44_apply]
  unfold branch head
  refine congrArg₂ (· + ·) (Finset.sum_congr rfl fun o _ => congrArg₂ (· * ·) ?_ ?_) ?_
  · unfold val_main_v42
    refine shapeCast_apply _ _ _ (ValueIdx.ix4 q o 0 0 : S80x256x1x1.Idx) ?_
    rw [Shape.rowMajor_val_four, Shape.rowMajor_val_two]
    show ((q.val * 256 + o.val) * 1 + 0) * 1 + 0 = q.val * 256 + o.val
    omega
  · refine Eq.trans (congrArg _ (funext fun a => ?_)) (hidden_apply x w g b o n)
    match a with
    | ⟨0, _⟩ => rfl
    | ⟨1, _⟩ => rfl
  · refine congrArg d (funext fun a => ?_)
    match a with
    | ⟨0, _⟩ => rfl

/-- The second branch's hidden layer is the first's, of its own arguments. -/
theorem hidden_same : val_main_v67 (F := Ideal) x w g b = val_main_v41 (F := Ideal) x w g b := rfl

/-- The second branch before its last reshape. -/
theorem boxes_apply (u : Vec Ideal S68x256x1x1 .f32) (d : Vec Ideal S68 .f32) (q : Fin 68) (n : Fin 4096) :
    val_main_v72 (F := Ideal) x w g b u d (ValueIdx.ix2 q n : S68x4096.Idx) = branch x w g b u d q n := by
  rw [val_main_v72_apply, val_main_v69_apply, val_main_v71_apply, val_main_v70_apply, hidden_same]
  unfold branch head
  refine congrArg₂ (· + ·) (Finset.sum_congr rfl fun o _ => congrArg₂ (· * ·) ?_ ?_) ?_
  · unfold val_main_v68
    refine shapeCast_apply _ _ _ (ValueIdx.ix4 q o 0 0 : S68x256x1x1.Idx) ?_
    rw [Shape.rowMajor_val_four, Shape.rowMajor_val_two]
    show ((q.val * 256 + o.val) * 1 + 0) * 1 + 0 = q.val * 256 + o.val
    omega
  · refine Eq.trans (congrArg _ (funext fun a => ?_)) (hidden_apply x w g b o n)
    match a with
    | ⟨0, _⟩ => rfl
    | ⟨1, _⟩ => rfl
  · refine congrArg d (funext fun a => ?_)
    match a with
    | ⟨0, _⟩ => rfl

/-- The first result at an index. -/
theorem result0 (u : Vec Ideal S80x256x1x1 .f32) (d : Vec Ideal S80 .f32) (i : S1x80x64x64.Idx) (n : Fin 4096)
    (hn : n.val = 64 * (i 2).val + (i 3).val) :
    val_main_v47 (F := Ideal) x w g b u d i = branch x w g b u d (i 1) n := by
  unfold val_main_v47
  exact (maps _ _ i n hn).trans (scores_apply x w g b u d (i 1) n)

/-- The second result at an index. -/
theorem result1 (u : Vec Ideal S68x256x1x1 .f32) (d : Vec Ideal S68 .f32) (i : S1x68x64x64.Idx) (n : Fin 4096)
    (hn : n.val = 64 * (i 2).val + (i 3).val) :
    val_main_v73 (F := Ideal) x w g b u d i = branch x w g b u d (i 1) n := by
  unfold val_main_v73
  exact (maps _ _ i n hn).trans (boxes_apply x w g b u d (i 1) n)

end Cert.Head.RBranch

end
-- ==== Proof.Equation.lean ====
/- The equation: from equal arguments, what the kernel returns is what the reference returns, each result both programs'
   own branch of the head. -/
module

public import proofs.«01_k».proof.Defs
public import proofs.«01_k».proof.Proof.KRun
public import proofs.«01_k».proof.Proof.RBranch

@[expose] public section

noncomputable section

namespace Cert.Head.Equation

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The class scores are equal. -/
theorem scores
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5)
      = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6)
      = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7)
      = m ((c.tc : Thread Cert.KernelIdeal.nD Cert.KernelIdeal.τ).loc Cert.KernelIdeal.main_arg7)) :
    Cert.ReferenceIdeal.Value.res_main_v47 m' c = KRun.result0 m c := by
  rw [Cert.ReferenceIdeal.Read.val_main_v47_eq, h0, h3, h4, h5, h6, h7]
  funext i
  exact RBranch.result0 _ _ _ _ _ _ i _ rfl

/-- The box distances are equal. -/
theorem boxes
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h8 : m' ((c.tc : Thread Cert.ReferenceIdeal.nD Cert.ReferenceIdeal.τ).loc Cert.ReferenceIdeal.main_arg8)
      = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9)
      = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10)
      = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11)
      = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12)
      = m ((c.tc : Thread Cert.KernelIdeal.nD Cert.KernelIdeal.τ).loc Cert.KernelIdeal.main_arg12)) :
    Cert.ReferenceIdeal.Value.res_main_v73 m' c = KRun.result1 m c := by
  rw [Cert.ReferenceIdeal.Read.val_main_v73_eq, h0, h8, h9, h10, h11, h12]
  funext i
  exact RBranch.result1 _ _ _ _ _ _ i _ rfl

/-- The value claim: from equal arguments both programs run and return equal results, their arguments as they were. -/
theorem algebraic : Cert.algebraic_KernelIdeal_ReferenceIdeal := by
  intro m g m' g' _ h
  refine ⟨KRun.result0 m, KRun.result1 m, ?_, ?_⟩
  · exact (θ_run _ _ _).mono (fun r hr c => ⟨(hr.1 c).1, (hr.1 c).2, hr.2 c⟩)
      (θ_run_and (KRun.run m g) (Cert.KernelIdeal.Gen.unchanged m g))
  · refine (θ_run _ _ _).mono (fun r hr c => ?_) (Cert.ReferenceIdeal.Value.run (F := Ideal) m' g')
    obtain ⟨h0, -, -, h3, h4, h5, h6, h7, h8, h9, h10, h11, h12⟩ := h c
    exact ⟨(hr c).1.trans (scores m m' c h0 h3 h4 h5 h6 h7), (hr c).2.1.trans (boxes m m' c h0 h8 h9 h10 h11 h12), (hr c).2.2⟩

end Cert.Head.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel's launch at the machine's words leaves every argument as it was and every counter at zero. -/
theorem frame_kernel : Cert.quiescent_Kernel := fun m ρ _ => Cert.Kernel.Gen.frame (F := Bits) m ρ

/-- The idealized kernel's launch leaves every argument as it was and every counter at zero. -/
theorem frame_ideal : Cert.quiescent_KernelIdeal := fun m ρ _ => Cert.KernelIdeal.Gen.frame (F := Ideal) m ρ

/-- The reference has no semaphore, so every state of it has all counters at zero. -/
theorem no_counter (f : GSem Cert.ReferenceIdeal.nD Cert.ReferenceIdeal.τ Cert.ReferenceIdeal.sig → ℤ) :
    f = fun _ => 0 := by
  funext g
  rcases g with ⟨_, s | s⟩
  · exact absurd s.isLt (Nat.not_lt_zero _)
  · exact absurd s.isLt (Nat.not_lt_zero _)

/-- The reference's run leaves every argument as it was and every counter at zero. -/
theorem frame_reference : Cert.quiescent_ReferenceIdeal := fun m ρ _ =>
  (θ_run Cert.ReferenceIdeal.defs _ _).mono (fun _ h => ⟨fun c => (h c).2.2, no_counter _⟩)
    (Cert.ReferenceIdeal.Value.run (F := Ideal) m ρ)

/-- The named constant: the kernel's literal is the f32 of the inverse root the name denotes. -/
theorem preserves : Cert.preserves_Kernel_KernelIdeal :=
  IdealRules.named_const.statement Cert.KernelIdeal.κ "rsq" .f32 0x3F7FFFAC#32
    (((Real.sqrt (2097173 / 2097152))⁻¹ : ℝ) : EReal) rfl

theorem claim : Cert.Claim := ⟨Cert.Kernel.Gen.facts, Cert.KernelIdeal.Gen.facts, Cert.ReferenceIdeal.Gen.facts,
  frame_kernel, frame_ideal, frame_reference, preserves,
  Cert.Head.Equation.algebraic⟩

end Cert.Proof

end
